-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_separated [hPre_separated : Cert.Pre_separated.Facts] (m : (ℓ : Loc Cert.KernelIdeal.nD Cert.KernelIdeal.τ Cert.KernelIdeal.sig) → Buf (Elt Ideal) ℓ) : Prop :=
  ∀ c : Dev Cert.KernelIdeal.nD,
    (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_separated [hPre_separated : Cert.Pre_separated.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_separated [hKernelIdeal : Cert.KernelIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_separated m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_separated [hReferenceIdeal : Cert.ReferenceIdeal.Facts] [hPre_separated : Cert.Pre_separated.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_separated m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_separated [hKernelIdeal : Cert.KernelIdeal.Facts] [hReferenceIdeal : Cert.ReferenceIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_separated m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_separated : Cert.Pre_separated.Facts),
    quiescent_Kernel (hKernel := hKernel)
    ∧ quiescent_KernelIdeal (hKernelIdeal := hKernelIdeal)
    ∧ quiescent_KernelIdeal_pre_separated (hKernelIdeal := hKernelIdeal) (hPre_separated := hPre_separated)
    ∧ quiescent_ReferenceIdeal (hReferenceIdeal := hReferenceIdeal)
    ∧ quiescent_ReferenceIdeal_pre_separated (hReferenceIdeal := hReferenceIdeal) (hPre_separated := hPre_separated)
    ∧ preserves_Kernel_KernelIdeal
    ∧ algebraic_KernelIdeal_ReferenceIdeal_pre_separated (hKernelIdeal := hKernelIdeal) (hReferenceIdeal := hReferenceIdeal) (hPre_separated := hPre_separated)
-- ==== Pre_separated.lean ====
abbrev S8192x768 : Shape := ⟨2, ![8192, 768]⟩
abbrev S768x8192 : Shape := ⟨2, ![768, 8192]⟩
abbrev S8192 : Shape := ⟨1, ![8192]⟩
abbrev S768 : Shape := ⟨1, ![768]⟩
abbrev S1x768 : Shape := ⟨2, ![1, 768]⟩
abbrev S8192x8192 : Shape := ⟨2, ![8192, 8192]⟩
abbrev S1x8192 : Shape := ⟨2, ![1, 8192]⟩
abbrev S8192x129 : Shape := ⟨2, ![8192, 129]⟩
abbrev S8192x1 : Shape := ⟨2, ![8192, 1]⟩
abbrev S1x254 : Shape := ⟨2, ![1, 254]⟩
abbrev S_ : Shape := ⟨0, ![]⟩
abbrev S8192x254 : Shape := ⟨2, ![8192, 254]⟩

class Facts : Prop where
  bcast_S768_S1x768_1 : S768.BroadcastsInDim S1x768 (![1] : Fin 1 → Fin S1x768.rank)
  bcast_S1x768_S8192x768_0_1 : S1x768.BroadcastsInDim S8192x768 (![0, 1] : Fin 2 → Fin S8192x768.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  sliceFits_S8192x8192_S8192x129 : S8192x8192.Slices (fun _ => 0) S8192x129
  slices_S8192x129_S8192x1_0_127 : S8192x129.Slices ![0, 127] S8192x1
  slices_S8192x129_S8192x1_0_128 : S8192x129.Slices ![0, 128] S8192x1
  bcast_S_S1x254 : S_.BroadcastsInDim S1x254 (![] : Fin 0 → Fin S1x254.rank)
  bcast_S_S8192x1 : S_.BroadcastsInDim S8192x1 (![] : Fin 0 → Fin S8192x1.rank)
  bcast_S8192x1_S8192x254_0_1 : S8192x1.BroadcastsInDim S8192x254 (![0, 1] : Fin 2 → Fin S8192x254.rank)
  bcast_S1x254_S8192x254_0_1 : S1x254.BroadcastsInDim S8192x254 (![0, 1] : Fin 2 → Fin S8192x254.rank)
  dot_S8192x768_S768x8192_S8192x8192_1_0_0_1_n_n_wf : DotDims.WF S8192x768 S768x8192 S8192x8192 [1] [0] [0] [1] [] []

variable [Facts]

def dot_S8192x768_S768x8192_S8192x8192_1_0_0_1_n_n : DotDims S8192x768 S768x8192 S8192x8192 where
  lhsContracting := [1]
  rhsContracting := [0]
  lhsNonContracting := [0]
  rhsNonContracting := [1]
  lhsBatch := []
  rhsBatch := []
  wf := dot_S8192x768_S768x8192_S8192x8192_1_0_0_1_n_n_wf
def fn_part1 {F : FTy → Type} [FloatOps F] (main_v7 : FVec F S8192x1 .f32) (main_v8 : FVec F S8192x1 .f32) (main_v14 : FVec F S1x254 .f32) (main_v17 : FVec F S8192x1 .f32) (main_v18 : FVec F S8192x1 .f32) : IVec S8192x254 1 :=
  let main_v19 : FVec F S8192x1 .f32 := maximumf main_v17 main_v18
  let main_v20 : FVec F S8192x254 .f32 := broadcastInDim S8192x254 ![0, 1] bcast_S8192x1_S8192x254_0_1 main_v19
  let main_v21 : FVec F S8192x254 .f32 := broadcastInDim S8192x254 ![0, 1] bcast_S1x254_S8192x254_0_1 main_v14
  let main_v22 : IVec S8192x254 1 := cmpf .olt main_v20 main_v21
  let main_v23 : FVec F S8192x1 .f32 := subf main_v7 main_v8
  let main_cst_1 : FVec F S_ .f32 := constant S_ .f32 0x34800000#32
  let main_v24 : FVec F S1x254 .f32 := broadcastInDim S1x254 ![] bcast_S_S1x254 main_cst_1
  let main_v25 : FVec F S1x254 .f32 := mulf main_v24 main_v14
  let main_v26 : FVec F S8192x254 .f32 := broadcastInDim S8192x254 ![0, 1] bcast_S8192x1_S8192x254_0_1 main_v23
  let main_v27 : FVec F S8192x254 .f32 := broadcastInDim S8192x254 ![0, 1] bcast_S1x254_S8192x254_0_1 main_v25
  let main_v28 : IVec S8192x254 1 := cmpf .oge main_v26 main_v27
  let main_v29 : IVec S8192x254 1 := ori main_v22 main_v28
  let main_v30 : FVec F S8192x1 .f32 := Host.absf main_v7
  let main_cst_2 : FVec F S_ .f32 := constant S_ .f32 0x7F000000#32
  let main_v31 : FVec F S8192x1 .f32 := broadcastInDim S8192x1 ![] bcast_S_S8192x1 main_cst_2
  let main_v32 : IVec S8192x1 1 := cmpf .ole main_v30 main_v31
  let main_v33 : IVec S8192x254 1 := broadcastInDim S8192x254 ![0, 1] bcast_S8192x1_S8192x254_0_1 main_v32
  let main_v34 : IVec S8192x254 1 := andi main_v29 main_v33
  main_v34

def fn {F : FTy → Type} [FloatOps F] (main_arg0 : FVec F S8192x768 .f32) (main_arg1 : FVec F S8192x768 .f32) (main_arg2 : FVec F S768x8192 .f32) (main_arg3 : FVec F S8192 .f32) (main_arg4 : FVec F S768 .f32) : IVec S8192x254 1 :=
  let main_v0 : FVec F S1x768 .f32 := broadcastInDim S1x768 ![1] bcast_S768_S1x768_1 main_arg4
  let main_v1 : FVec F S8192x768 .f32 := broadcastInDim S8192x768 ![0, 1] bcast_S1x768_S8192x768_0_1 main_v0
  let main_v2 : FVec F S8192x768 .f32 := subf main_arg0 main_v1
  let main_v3 : FVec F S8192x8192 .f32 := (fun l r => Host.dotGeneral dot_S8192x768_S768x8192_S8192x8192_1_0_0_1_n_n none l r) main_v2 main_arg2
  let main_v4 : FVec F S1x8192 .f32 := broadcastInDim S1x8192 ![1] bcast_S8192_S1x8192_1 main_arg3
  let main_v5 : FVec F S8192x8192 .f32 := broadcastInDim S8192x8192 ![0, 1] bcast_S1x8192_S8192x8192_0_1 main_v4
  let main_v6 : FVec F S8192x8192 .f32 := addf main_v3 main_v5
  let main_values : FVec F S8192x129 .f32 := (fun x => (Host.topK S8192x129 1 (FloatOps.cmpfTotal .gt) x sliceFits_S8192x8192_S8192x129).1) main_v6
  let main_indices : IVec S8192x129 32 := (fun x => (Host.topK S8192x129 1 (FloatOps.cmpfTotal .gt) x sliceFits_S8192x8192_S8192x129).2) main_v6
  let main_v7 : FVec F S8192x1 .f32 := (extractStridedSlice S8192x1 ![0, 127] · slices_S8192x129_S8192x1_0_127) main_values
  let main_v8 : FVec F S8192x1 .f32 := (extractStridedSlice S8192x1 ![0, 128] · slices_S8192x129_S8192x1_0_128) main_values
  let main_v9 : IVec S1x254 32 := iotaInDim S1x254 32 1
  let main_c : IVec S_ 32 := constantI S_ 32 1#32
  let main_v10 : IVec S1x254 32 := broadcastInDim S1x254 ![] bcast_S_S1x254 main_c
  let main_v11 : IVec S1x254 32 := addi main_v9 main_v10
  let main_c_0 : IVec S_ 32 := constantI S_ 32 23#32
  let main_v12 : IVec S1x254 32 := broadcastInDim S1x254 ![] bcast_S_S1x254 main_c_0
  let main_v13 : IVec S1x254 32 := Host.shli main_v11 main_v12
  let main_v14 : FVec F S1x254 .f32 := bitcastToFloat .f32 main_v13
  let main_v15 : FVec F S8192x1 .f32 := Host.absf main_v7
  let main_v16 : FVec F S8192x1 .f32 := Host.absf main_v8
  let main_v17 : FVec F S8192x1 .f32 := maximumf main_v15 main_v16
  let main_cst : FVec F S_ .f32 := constant S_ .f32 0x00800000#32
  let main_v18 : FVec F S8192x1 .f32 := broadcastInDim S8192x1 ![] bcast_S_S8192x1 main_cst
  fn_part1 (F := F) main_v7 main_v8 main_v14 main_v17 main_v18
-- ==== Kernel.lean ====
abbrev S8192x768 : Shape := ⟨2, ![8192, 768]⟩
abbrev S768x8192 : Shape := ⟨2, ![768, 8192]⟩
abbrev S8192 : Shape := ⟨1, ![8192]⟩
abbrev S768 : Shape := ⟨1, ![768]⟩
abbrev S1x8192 : Shape := ⟨2, ![1, 8192]⟩
abbrev S1x768 : Shape := ⟨2, ![1, 768]⟩
abbrev S128x768 : Shape := ⟨2, ![128, 768]⟩
abbrev S128x8192 : Shape := ⟨2, ![128, 8192]⟩
abbrev S64x8192 : Shape := ⟨2, ![64, 8192]⟩
abbrev S64x1 : Shape := ⟨2, ![64, 1]⟩
abbrev S64x4096 : Shape := ⟨2, ![64, 4096]⟩
abbrev S64x2048 : Shape := ⟨2, ![64, 2048]⟩
abbrev S64x1024 : Shape := ⟨2, ![64, 1024]⟩
abbrev S64x512 : Shape := ⟨2, ![64, 512]⟩
abbrev S64x256 : Shape := ⟨2, ![64, 256]⟩
abbrev S64x128 : Shape := ⟨2, ![64, 128]⟩
abbrev S64 : Shape := ⟨1, ![64]⟩
abbrev S128x1 : Shape := ⟨2, ![128, 1]⟩

abbrev nBuf : Space → Nat
  | .hbm => 9
  | .vmem => 8
  | .smem => 0
  | _ => 0

abbrev bufTy : (tb : Table) → Fin (tcTables nBuf tb) → BufTy
  | .hbm, ⟨0, _⟩ => ⟨S8192x768, .f32⟩
  | .hbm, ⟨1, _⟩ => ⟨S8192x768, .f32⟩
  | .hbm, ⟨2, _⟩ => ⟨S768x8192, .f32⟩
  | .hbm, ⟨3, _⟩ => ⟨S8192, .f32⟩
  | .hbm, ⟨4, _⟩ => ⟨S768, .f32⟩
  | .hbm, ⟨5, _⟩ => ⟨S8192x768, .bf16⟩
  | .hbm, ⟨6, _⟩ => ⟨S1x8192, .f32⟩
  | .hbm, ⟨7, _⟩ => ⟨S1x768, .f32⟩
  | .hbm, ⟨8, _⟩ => ⟨S8192x768, .f32⟩
  | .local _ .vmem, ⟨0, _⟩ => ⟨S128x768, .f32⟩
  | .local _ .vmem, ⟨1, _⟩ => ⟨S128x768, .f32⟩
  | .local _ .vmem, ⟨2, _⟩ => ⟨S768x8192, .f32⟩
  | .local _ .vmem, ⟨3, _⟩ => ⟨S8192x768, .bf16⟩
  | .local _ .vmem, ⟨4, _⟩ => ⟨S1x8192, .f32⟩
  | .local _ .vmem, ⟨5, _⟩ => ⟨S1x768, .f32⟩
  | .local _ .vmem, ⟨6, _⟩ => ⟨S128x768, .f32⟩
  | .local _ .vmem, ⟨7, _⟩ => ⟨S128x768, .f32⟩
  | _, _ => ⟨S8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32_8 : BitVec 32 := 0#32
  let c16_i32 : BitVec 32 := 16#32
  let v18 : BitVec 32 := Scalar.addi c0_i32_8 c16_i32
  let c1_i32 : BitVec 32 := 1#32
  ⟨c0_i32_8, v18, c1_i32⟩
@[reducible] def k0_t2_loop : Scf.Loop 32 :=
  let c0_i32_27 : BitVec 32 := 0#32
  let c18_i32 : BitVec 32 := 18#32
  let v64 : BitVec 32 := Scalar.addi c0_i32_27 c18_i32
  let c1_i32_28 : BitVec 32 := 1#32
  ⟨c0_i32_27, v64, c1_i32_28⟩
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8192x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S8192x768 : Shape := ⟨2, ![8192, 768]⟩
abbrev S768x8192 : Shape := ⟨2, ![768, 8192]⟩
abbrev S8192 : Shape := ⟨1, ![8192]⟩
abbrev S768 : Shape := ⟨1, ![768]⟩
abbrev S1x768 : Shape := ⟨2, ![1, 768]⟩
abbrev S8192x8192 : Shape := ⟨2, ![8192, 8192]⟩
abbrev S1x8192 : Shape := ⟨2, ![1, 8192]⟩
abbrev S8192x128 : Shape := ⟨2, ![8192, 128]⟩
abbrev S_ : Shape := ⟨0, ![]⟩
abbrev S8192x128x1 : Shape := ⟨3, ![8192, 128, 1]⟩
abbrev S1 : Shape := ⟨1, ![1]⟩
abbrev S1x1x1 : Shape := ⟨3, ![1, 1, 1]⟩
abbrev S8192x128x768 : Shape := ⟨3, ![8192, 128, 768]⟩

abbrev nBuf : Space → Nat
  | .hbm => 41
  | .vmem => 0
  | .smem => 0
  | _ => 0

abbrev bufTy : (tb : Table) → Fin (tcTables nBuf tb) → BufTy
  | .hbm, ⟨0, _⟩ => ⟨S8192x768, .f32⟩
  | .hbm, ⟨1, _⟩ => ⟨S8192x768, .f32⟩
  | .hbm, ⟨2, _⟩ => ⟨S768x8192, .f32⟩
  | .hbm, ⟨3, _⟩ => ⟨S8192, .f32⟩
  | .hbm, ⟨4, _⟩ => ⟨S768, .f32⟩
  | .hbm, ⟨5, _⟩ => ⟨S1x768, .f32⟩
  | .hbm, ⟨6, _⟩ => ⟨S8192x768, .f32⟩
  | .hbm, ⟨7, _⟩ => ⟨S8192x768, .f32⟩
  | .hbm, ⟨8, _⟩ => ⟨S8192x8192, .f32⟩
  | .hbm, ⟨9, _⟩ => ⟨S1x8192, .f32⟩
  | .hbm, ⟨10, _⟩ => ⟨S8192x8192, .f32⟩
  | .hbm, ⟨11, _⟩ => ⟨S8192x8192, .f32⟩
  | .hbm, ⟨12, _⟩ => ⟨S8192x128, .f32⟩
  | .hbm, ⟨13, _⟩ => ⟨S8192x128, .i32⟩
  | .hbm, ⟨14, _⟩ => ⟨S_, .i32⟩
  | .hbm, ⟨15, _⟩ => ⟨S8192x128, .i32⟩
  | .hbm, ⟨16, _⟩ => ⟨S8192x128, .i1⟩
  | .hbm, ⟨17, _⟩ => ⟨S_, .i32⟩
  | .hbm, ⟨18, _⟩ => ⟨S8192x128, .i32⟩
  | .hbm, ⟨19, _⟩ => ⟨S8192x128, .i32⟩
  | .hbm, ⟨20, _⟩ => ⟨S8192x128, .i32⟩
  | .hbm, ⟨21, _⟩ => ⟨S8192x128x1, .i32⟩
  | .hbm, ⟨22, _⟩ => ⟨S1, .i32⟩
  | .hbm, ⟨23, _⟩ => ⟨S_, .i32⟩
  | .hbm, ⟨24, _⟩ => ⟨S8192x128x1, .i32⟩
  | .hbm, ⟨25, _⟩ => ⟨S8192x128x1, .i1⟩
  | .hbm, ⟨26, _⟩ => ⟨S1x1x1, .i32⟩
  | .hbm, ⟨27, _⟩ => ⟨S8192x128x1, .i32⟩
  | .hbm, ⟨28, _⟩ => ⟨S8192x128x1, .i1⟩
  | .hbm, ⟨29, _⟩ => ⟨S8192x128x1, .i1⟩
  | .hbm, ⟨30, _⟩ => ⟨S_, .i1⟩
  | .hbm, ⟨31, _⟩ => ⟨S8192x128, .i1⟩
  | .hbm, ⟨32, _⟩ => ⟨S8192x128x768, .f32⟩
  | .hbm, ⟨33, _⟩ => ⟨S8192x128x768, .i1⟩
  | .hbm, ⟨34, _⟩ => ⟨S_, .f32⟩
  | .hbm, ⟨35, _⟩ => ⟨S8192x128x768, .f32⟩
  | .hbm, ⟨36, _⟩ => ⟨S8192x128x768, .f32⟩
  | .hbm, ⟨37, _⟩ => ⟨S8192x768, .f32⟩
  | .hbm, ⟨38, _⟩ => ⟨S1x768, .f32⟩
  | .hbm, ⟨39, _⟩ => ⟨S8192x768, .f32⟩
  | .hbm, ⟨40, _⟩ => ⟨S8192x768, .f32⟩
  | _, _ => ⟨S8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_values : Ref sig .tc := ⟨.hbm, 12, rfl⟩
abbrev main_indices : Ref sig .tc := ⟨.hbm, 13, rfl⟩
abbrev main_call0_c : Ref sig .tc := ⟨.hbm, 14, rfl⟩
abbrev main_call0_v0 : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_c_1 : Ref sig .tc := ⟨.hbm, 22, rfl⟩
abbrev main_call0_c_2 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_3 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_call0_cst : Ref sig .tc := ⟨.hbm, 34, rfl⟩
abbrev main_call0_v15 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩

abbrev nD : Nat := 1
abbrev τ : Topo := Topo.v7x

variable {F : FTy → Type} [FloatOps F]
-- ==== Proof.IdealRun.lean ====
/-
  The run of the kernel of `KernelIdeal`: the body's triple, the proof data of the pipeline, the launch, and the frame.
  The body's two counted loops issue no effect, so each is the fold of its region's pure step.
-/
module

public import proofs.«01_k».proof.Proof.Gen.KernelIdeal.Frame
public import proofs.«01_k».proof.Proof.Gen.KernelIdeal.Skeleton
public import Idealize.ShloMosaic.Lib.Exec
public import Idealize.ShloMosaic.Lib.Claim

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the body computes -/

/-- One trip of the first loop on the two 64-row halves' prefixes: the next bit of each is kept where at least 128
    entries of the row reach the candidate it makes. -/
def step1 (lo hi : FVec F S64x8192 .bf16) (k : Fin k0_t1_loop.trips) (p : IVec S64x1 32 × IVec S64x1 32) :
    IVec S64x1 32 × IVec S64x1 32 :=
  (k0_pay4 p.1 (k0_pay2 0#32 1#32 k p.1) (k0_pay3 lo 0#32 1#32 k p.1),
    k0_pay22 p.2 (k0_pay5 p.2 (Scalar.shli 1#32 (Scalar.subi 15#32 (Scf.iv 0#32 1#32 k))))
      (k0_pay6 hi p.2 (Scalar.shli 1#32 (Scalar.subi 15#32 (Scf.iv 0#32 1#32 k)))) (Scalar.ofBits .f32 0x43000000#32))

/-- The prefixes after the first loop, from the pre-activations' two halves rounded to bf16. -/
def prefixes (lo hi : FVec F S64x8192 .bf16) : IVec S64x1 32 × IVec S64x1 32 :=
  Scf.fold (step1 lo hi) (k0_pay20, k0_pay21)

/-- One trip of the second loop on the two halves' key ranges: each range is cut at its middle key. -/
def step2 (lo hi : FVec F S64x8192 .f32) (_ : Fin k0_t2_loop.trips) (p : IVec S64x1 32 × IVec S64x1 32 × IVec S64x1 32 × IVec S64x1 32) :
    IVec S64x1 32 × IVec S64x1 32 × IVec S64x1 32 × IVec S64x1 32 :=
  (k0_pay9 lo p.1 p.2.1, k0_pay10 lo p.1 p.2.1, k0_pay13 hi p.2.2.1 p.2.2.2,
    k0_pay31 p.2.2.2 (k0_pay11 p.2.2.1 p.2.2.2) (k0_pay12 hi p.2.2.1 p.2.2.2) 1#32)

/-- The key ranges after the second loop, from the second half's prefixes `q` and the first half's keys' neighbours `p₀`
    and `p₁`. -/
def ranges (lo hi : FVec F S64x8192 .f32) (q p₀ p₁ : IVec S64x1 32) :
    IVec S64x1 32 × IVec S64x1 32 × IVec S64x1 32 × IVec S64x1 32 :=
  Scf.fold (step2 lo hi) (k0_pay26 p₀, k0_pay27 p₁, k0_pay29 q, k0_pay30 q)

/-- The block the body stores, from the blocks it loads: tokens `x`, encoder `wt`, decoder `w`, biases `b1` and `b2`. -/
def block (x : Vec F S128x768 .f32) (wt : Vec F S768x8192 .f32) (w : Vec F S8192x768 .bf16) (b1 : Vec F S1x8192 .f32)
    (b2 : Vec F S1x768 .f32) : FVec F S128x768 .f32 :=
  let p := prefixes (k0_pay18 x b2 wt b1) (k0_pay19 x b2 wt b1)
  let r := ranges (k0_pay16 x b2 wt b1) (k0_pay17 x b2 wt b1) p.2 (k0_pay24 p.1) (k0_pay25 p.1)
  k0_pay1 (k0_pay14 x b2 wt b1) r.2.2.1 (k0_pay32 r.1) (k0_pay33 r.2.2.1) k0_pay34 w b2

/-! ## The loops are their folds -/

section Loops

variable (i : grid0.Coords) (a1 : Memref sig .tc .vmem S128x768 .f32) (h1 : a1.IsWhole)
  (a2 : Memref sig .tc .vmem S768x8192 .f32) (h2 : a2.IsWhole) (a3 : Memref sig .tc .vmem S8192x768 .bf16) (h3 : a3.IsWhole)
  (a4 : Memref sig .tc .vmem S1x8192 .f32) (h4 : a4.IsWhole) (a5 : Memref sig .tc .vmem S1x768 .f32) (h5 : a5.IsWhole)
  (a6 : Memref sig .tc .vmem S128x768 .f32) (h6 : a6.IsWhole)

/-- The first loop returns the prefixes. -/
theorem loop1 (x : Vec F S128x768 .f32) (b2 : Vec F S1x768 .f32) (wt : Vec F S768x8192 .f32) (b1 : Vec F S1x8192 .f32) :
    Scf.Loop.for k0_t1_loop k0_t1_ok (k0_pay20, k0_pay21) (k0_t1_body i a1 h1 a2 h2 a3 h3 a4 h4 a5 h5 a6 h6 x b2 wt b1)
      = .ret (prefixes (k0_pay18 x b2 wt b1) (k0_pay19 x b2 wt b1)) :=
  Scf.for_pure _ _ _ _ _ _ (step1 (k0_pay18 x b2 wt b1) (k0_pay19 x b2 wt b1)) fun k acc => by
    simp only [k0_t1_body, k0_part1_eq_skeleton, k0_part2_eq_skeleton]; rfl

/-- The second loop returns the ranges. -/
theorem loop2 (lo hi : FVec F S64x8192 .f32) (q p₀ p₁ : IVec S64x1 32) :
    Scf.Loop.for k0_t2_loop k0_t2_ok (k0_pay26 p₀, k0_pay27 p₁, k0_pay29 q, k0_pay30 q)
        (k0_t2_body i a1 h1 a2 h2 a3 h3 a4 h4 a5 h5 a6 h6 lo hi q p₀ p₁)
      = .ret (ranges lo hi q p₀ p₁) :=
  Scf.for_pure _ _ _ _ _ _ (step2 lo hi) fun k acc => by
    simp only [k0_t2_body, k0_part3_eq_skeleton]; rfl

end Loops

/-! ## The body's triple -/

abbrev rX : Rect S128x768 := Rect.unit (s := S128x768) ![0, 0] S128x768.size inb_S128x768_S128x768_0_0
abbrev rB2 : Rect S1x768 := Rect.unit (s := S1x768) ![0, 0] S1x768.size inb_S1x768_S1x768_0_0
abbrev rWT : Rect S768x8192 := Rect.unit (s := S768x8192) ![0, 0] S768x8192.size inb_S768x8192_S768x8192_0_0
abbrev rB1 : Rect S1x8192 := Rect.unit (s := S1x8192) ![0, 0] S1x8192.size inb_S1x8192_S1x8192_0_0
abbrev rW : Rect S8192x768 := Rect.unit (s := S8192x768) ![0, 0] S8192x768.size inb_S8192x768_S8192x768_0_0

/-- What the body leaves in the output's buffer, as the one store it makes. -/
def left (x : Vec F S128x768 .f32) (wt : Vec F S768x8192 .f32) (w : Vec F S8192x768 .bf16) (b1 : Vec F S1x8192 .f32)
    (b2 : Vec F S1x768 .f32) : Vec F S128x768 .f32 :=
  View.canon [⟨rX, block (View.ld x rX) (View.ld wt rWT) (View.ld w rW) (View.ld b1 rB1) (View.ld b2 rB2)⟩]

/-- The one store covers the output's buffer. -/
theorem covers (p : Vec F S128x768 .f32) (y : S128x768.Idx) :
    ∃ pc ∈ ([⟨rX, p⟩] : List (View.Piece (Elt F) S128x768 .f32)), y ∈ pc.1.set :=
  View.cover_of_tiled [⟨rX, p⟩] S128x768.size (by rfl) y

set_option maxHeartbeats 4000000 in
/-- The body, on staging buffers that hold the blocks it reads, ends with those as they were and `left` of them in the
    output's. -/
theorem body_triple (c : Dev nD) (E : Set ℕ) (i : grid0.Coords) (a1 : Memref sig .tc .vmem S128x768 .f32) (h1 : a1.IsWhole)
    (a2 : Memref sig .tc .vmem S768x8192 .f32) (h2 : a2.IsWhole) (a3 : Memref sig .tc .vmem S8192x768 .bf16) (h3 : a3.IsWhole)
    (a4 : Memref sig .tc .vmem S1x8192 .f32) (h4 : a4.IsWhole) (a5 : Memref sig .tc .vmem S1x768 .f32) (h5 : a5.IsWhole)
    (a6 : Memref sig .tc .vmem S128x768 .f32) (h6 : a6.IsWhole)
    (x : Vec F S128x768 .f32) (wt : Vec F S768x8192 .f32) (w : Vec F S8192x768 .bf16) (b1 : Vec F S1x8192 .f32)
    (b2 : Vec F S1x768 .f32) (K : PUnit → sProp 𝕄) :
    iprop(owns (c : Thread nD τ) a1 fullShare x ∗ owns (c : Thread nD τ) a2 fullShare wt ∗ owns (c : Thread nD τ) a3 fullShare w
        ∗ owns (c : Thread nD τ) a4 fullShare b1 ∗ owns (c : Thread nD τ) a5 fullShare b2
        ∗ (∃ d, owns (c : Thread nD τ) a6 fullShare d)
        ∗ (iprop(owns (c : Thread nD τ) a1 fullShare x ∗ owns (c : Thread nD τ) a2 fullShare wt
            ∗ owns (c : Thread nD τ) a3 fullShare w ∗ owns (c : Thread nD τ) a4 fullShare b1
            ∗ owns (c : Thread nD τ) a5 fullShare b2 ∗ owns (c : Thread nD τ) a6 fullShare (left x wt w b1 b2)) -∗ K ⟨⟩))
      ⊢ wp frame (wpE (defs₀ (F := F)) Variants.none c none) E (cc0__sae_block i a1 h1 a2 h2 a3 h3 a4 h4 a5 h5 a6 h6) K := by
  simp only [cc0__sae_block_eq_skeleton]; unfold cc0__sae_block_skel
  simp only [k0_part4_eq_skeleton, k0_part5_eq_skeleton]; unfold k0_part4_skel k0_part5_skel
  simp only [loop1, loop2]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (covers _)

/-! ## The proof data and the body obligation -/

variable (m : (ℓ : Loc nD τ sig) → Buf (Elt F) ℓ) (ρ : Dev nD → PrngReg)

/-- The proof data of the pipeline on core `c`: each input's buffer keeps its block and the output's holds `left` of the
    point's blocks after the body. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => left (iblk m c 0 t) (iblk m c 1 t) (iblk m c 2 t) (iblk m c 3 t) (iblk m c 4 t)
  Φ _ := Pipeline.ΦA spec0 c
  q _ := fullShare
  owed _ := 0

/-- The pipeline's arrays are what the region finds. -/
theorem arrays (c : Dev nD) (w : Fin cfg0.W) : (dats m 0 c).A w = V m c (Pipeline.arrRef spec0 w) := by
  dsimp only [dats]

theorem kept0 (c : Dev nD) (t : Fin cfg0.N) : (dats m 0 c).after 0 t = iblk m c 0 t := by dsimp only [dats]
theorem kept1 (c : Dev nD) (t : Fin cfg0.N) : (dats m 0 c).after 1 t = iblk m c 1 t := by dsimp only [dats]
theorem kept2 (c : Dev nD) (t : Fin cfg0.N) : (dats m 0 c).after 2 t = iblk m c 2 t := by dsimp only [dats]
theorem kept3 (c : Dev nD) (t : Fin cfg0.N) : (dats m 0 c).after 3 t = iblk m c 3 t := by dsimp only [dats]
theorem kept4 (c : Dev nD) (t : Fin cfg0.N) : (dats m 0 c).after 4 t = iblk m c 4 t := by dsimp only [dats]
/-- After the body at point `t` the output's buffer holds `left` of the blocks of `t`. -/
theorem made (c : Dev nD) (t : Fin cfg0.N) : (dats m 0 c).after 5 t
    = left (iblk m c 0 t) (iblk m c 1 t) (iblk m c 2 t) (iblk m c 3 t) (iblk m c 4 t) := by dsimp only [dats]

theorem found0 (c : Dev nD) (t : Fin cfg0.N) (d) : (dats m 0 c).before 0 t d = iblk m c 0 t :=
  before0_0_of m (dats m 0 c) (arrays m c 0) (kept0 m c) t d
theorem found1 (c : Dev nD) (t : Fin cfg0.N) (d) : (dats m 0 c).before 1 t d = iblk m c 1 t :=
  before0_1_of m (dats m 0 c) (arrays m c 1) (kept1 m c) t d
theorem found2 (c : Dev nD) (t : Fin cfg0.N) (d) : (dats m 0 c).before 2 t d = iblk m c 2 t :=
  before0_2_of m (dats m 0 c) (arrays m c 2) (kept2 m c) t d
theorem found3 (c : Dev nD) (t : Fin cfg0.N) (d) : (dats m 0 c).before 3 t d = iblk m c 3 t :=
  before0_3_of m (dats m 0 c) (arrays m c 3) (kept3 m c) t d
theorem found4 (c : Dev nD) (t : Fin cfg0.N) (d) : (dats m 0 c).before 4 t d = iblk m c 4 t :=
  before0_4_of m (dats m 0 c) (arrays m c 4) (kept4 m c) t d

/-- What the body is called with at point `t`. -/
def pre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- What the body returns at point `t`. -/
def post (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at point `t`, from `pre` to `post`. -/
theorem at_point (c : Dev nD) (t : Fin cfg0.N) :
    pre m c t ⊢ wp frame (wpE (defs₀ (F := F)) Variants.none c none) Set.univ (bodyAt0 t) (fun _ => post m c t) := by
  unfold pre post bodyAt0
  simp only [found0, found1, found2, found3, found4]
  rw [show (dats m 0 c).Φ t.succ = (dats m 0 c).Φ t.castSucc from rfl,
    show (dats m 0 c).owesAt () t.succ = (dats m 0 c).owesAt () t.castSucc from rfl, kept0, kept1, kept2, kept3, kept4, made]
  iintro ⟨HΦ, Ho, ⟨%d0, H0⟩, ⟨%d1, H1⟩, ⟨%d2, H2⟩, ⟨%d3, H3⟩, ⟨%d4, H4⟩, ⟨%d5, H5⟩⟩
  iapply (body_triple c Set.univ (grid0.coords t) _ _ _ _ _ _ _ _ _ _ _ _ (iblk m c 0 t) (iblk m c 1 t) (iblk m c 2 t)
    (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body table's row at point `t` is the body as `bodyAt0` spells it. -/
theorem row (t : Fin cfg0.N) : defs₀ (F := F) .tc cfg0.body (cfg0.bodyArgs t (cfg0.slots t)) = bodyAt0 t := by
  unfold defs₀; rw [Defs.onTc_tc]

/-- The pipeline's body obligation. -/
theorem obligation (c : Dev nD) :
    BodyObligation (dats (F := F) m 0 c) (defs₀ (F := F)) Variants.none () Set.univ := fun t => by
  rw [bigSep_W0, bigSep_W0, row]
  exact triple_restated (at_point m c t) rfl .rfl fun _ => .rfl

/-! ## The launch and the frame -/

set_option backward.isDefEq.respectTransparency.types false in
set_option maxHeartbeats 800000 in
/-- Every run of @main ends with the pipeline's arrays at what the proof data says, and every semaphore counter at zero. -/
theorem launch : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := arrays m) (hΦ := fun _ _ => rfl)

/-- The frame: every run of @main ends with its arguments unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (arrays m) ((θ_run defs _ _).mono (fun _ h => h.1) (launch m ρ)))
    ((θ_run defs _ _).mono (fun _ h => h.2) (launch m ρ))

end Cert.Proof.KernelIdeal

end
-- ==== Proof.SeparatedFacts.lean ====
module

public import proofs.«01_k».proof.Pre_separated

@[expose] public section

/-! The side conditions that the precondition's operations state. -/

namespace Cert.Proof.SeparatedFacts

open Cert.Pre_separated Idealize.ShloMosaic

/-- Every shape relation the precondition's function states holds. -/
theorem facts : Cert.Pre_separated.Facts where
  bcast_S768_S1x768_1 := by decide
  bcast_S1x768_S8192x768_0_1 := by decide
  bcast_S8192_S1x8192_1 := by decide
  bcast_S1x8192_S8192x8192_0_1 := by decide
  sliceFits_S8192x8192_S8192x129 := by decide
  slices_S8192x129_S8192x1_0_127 := by decide
  slices_S8192x129_S8192x1_0_128 := by decide
  bcast_S_S1x254 := by decide
  bcast_S_S8192x1 := by decide
  bcast_S8192x1_S8192x254_0_1 := by decide
  bcast_S1x254_S8192x254_0_1 := by decide
  dot_S8192x768_S768x8192_S8192x8192_1_0_0_1_n_n_wf := by decide

end Cert.Proof.SeparatedFacts
-- ==== Proof.TopK.lean ====
module

public import Idealize.ShloMosaic.Lib.SortFacts
public import Idealize.ShloMosaic.PureOps.Ideal

@[expose] public section

/-! The greatest entries of a row of extended reals: the order a stable descending sort puts the positions in. -/

namespace Cert.Proof.TopK

open Idealize.ShloMosaic

variable {n : ℕ}

/-- The position that the sort, greatest first, puts at each rank. -/
noncomputable def order (p : Fin n → EReal) : Fin n → Fin n :=
  sortedFrom fun k k' => FloatOps.cmpfTotal (F := Ideal) (φ := .f32) .gt (p k) (p k') == 1#1

/-- The sort's comparison is the order of the extended reals. -/
theorem greater (a b : EReal) : FloatOps.cmpfTotal (F := Ideal) (φ := .f32) .gt a b = 1#1 ↔ b < a := by
  show Ideal.cmpTotal .gt a b = 1#1 ↔ _
  by_cases h : b < a <;> simp [Ideal.cmpTotal, Ideal.cmp, CmpDirection.ordered, h]

/-- Different ranks hold different positions. -/
theorem order_injective (p : Fin n → EReal) : Function.Injective (order p) := sortedFrom_injective _

/-- Every position has a rank. -/
theorem order_surjective (p : Fin n → EReal) : Function.Surjective (order p) := sortedFrom_surjective _

/-- The entry at a later rank is no greater. -/
theorem order_antitone (p : Fin n → EReal) {i j : Fin n} (h : i ≤ j) : p (order p j) ≤ p (order p i) := by
  rcases h.lt_or_eq with h | rfl
  · have := sortedFrom_noInversion (fun k k' => FloatOps.cmpfTotal (F := Ideal) (φ := .f32) .gt (p k) (p k') == 1#1)
      (fun k k' => FloatOps.cmpfTotal (F := Ideal) (φ := .f32) .gt (p k) (p k') == 1#1)
      (by simp only [beq_iff_eq, beq_eq_false_iff_ne, ne_eq, greater, not_lt]; exact fun a b h => h.le)
      (fun _ _ h => h)
      (by simp only [beq_eq_false_iff_ne, ne_eq, greater, not_lt]; exact fun a b c h h' => h.trans h') i j h
    rw [beq_eq_false_iff_ne, ne_eq, greater, not_lt] at this
    exact this
  · exact le_rfl

/-- More than `i` entries reach `t` exactly when the entry at rank `i` does. -/
theorem enough (p : Fin n → EReal) (i : Fin n) (t : EReal) :
    i.val < (Finset.univ.filter fun j => t ≤ p j).card ↔ t ≤ p (order p i) := by
  have hc : (Finset.univ.filter fun j => t ≤ p j).card = (Finset.univ.filter fun k => t ≤ p (order p k)).card := by
    symm
    refine Finset.card_bij (fun k _ => order p k) ?_ (fun a _ b _ h => order_injective p h) ?_
    · intro k hk; simpa using hk
    · intro j hj
      obtain ⟨k, rfl⟩ := order_surjective p j
      exact ⟨k, by simpa using hj, rfl⟩
  rw [hc]
  constructor
  · intro h
    by_contra hn
    have hs : (Finset.univ.filter fun k => t ≤ p (order p k)) ⊆ Finset.Iio i := by
      intro k hk
      rw [Finset.mem_Iio]
      by_contra hki
      exact hn ((Finset.mem_filter.1 hk).2.trans (order_antitone p (not_lt.1 hki)))
    have := Finset.card_le_card hs
    rw [Fin.card_Iio] at this
    omega
  · intro h
    have hs : Finset.Iic i ⊆ (Finset.univ.filter fun k => t ≤ p (order p k)) := by
      intro k hk
      exact Finset.mem_filter.2 ⟨Finset.mem_univ _, h.trans (order_antitone p (Finset.mem_Iic.1 hk))⟩
    have := Finset.card_le_card hs
    rw [Fin.card_Iic] at this
    omega

/-- A sum over the entries that reach `t`, when `t` lies between rank `i` and rank `i + 1`, is the sum over the
ranks up to `i`. -/
theorem sum_chosen (p : Fin n → EReal) (i : ℕ) (hi : i + 1 < n) (t : EReal)
    (h₁ : t ≤ p (order p ⟨i, by omega⟩)) (h₂ : p (order p ⟨i + 1, hi⟩) < t) (f : Fin n → EReal) :
    (∑ j, if t ≤ p j then f j else 0) = ∑ k : Fin (i + 1), f (order p ⟨k.val, by omega⟩) := by
  rw [← Finset.sum_filter]
  symm
  refine Finset.sum_bij (fun k _ => order p ⟨k.val, by omega⟩) ?_ ?_ ?_ (fun _ _ => rfl)
  · intro k _
    refine Finset.mem_filter.2 ⟨Finset.mem_univ _, h₁.trans (order_antitone p ?_)⟩
    exact Fin.mk_le_mk.2 (by omega)
  · intro a _ b _ h
    exact Fin.ext (Fin.mk.inj_iff.1 (order_injective p h))
  · intro j hj
    obtain ⟨k, rfl⟩ := order_surjective p j
    have hk : k.val < i + 1 := by
      by_contra hk
      have := (Finset.mem_filter.1 hj).2.trans (order_antitone p (show (⟨i + 1, hi⟩ : Fin n) ≤ k from Fin.mk_le_of_le_val (by omega)))
      exact absurd h₂ (not_lt.2 this)
    exact ⟨⟨k.val, hk⟩, Finset.mem_univ _, rfl⟩

end Cert.Proof.TopK
-- ==== Proof.FloatKey.lean ====
module

public import Idealize.ShloMosaic.PureOps.Ideal

@[expose] public section

/-! What the binary32 patterns stand for, in the order of their sort keys. -/

namespace Cert.Proof.FloatKey

open Idealize.ShloMosaic

/-- The exponent field that scales magnitude `n`: a subnormal is scaled like the least normal one. -/
def scale (n : ℕ) : ℕ := max (n / 2 ^ 23) 1

/-- The distance from magnitude `n` to the next one. -/
noncomputable def ulp (n : ℕ) : ℝ := (2 : ℝ) ^ ((scale n : ℤ) - 150)

/-- The number that the pattern `n` with a clear sign stands for. -/
noncomputable def mag (n : ℕ) : ℝ := ((n : ℝ) - ((scale n : ℝ) - 1) * 2 ^ 23) * ulp n

theorem ulp_pos (n : ℕ) : 0 < ulp n := zpow_pos (by norm_num) _

theorem scale_pos (n : ℕ) : 1 ≤ scale n := le_max_right _ _

/-- The scale of the next magnitude is the same, or one more where a binade begins. -/
theorem scale_succ (n : ℕ) : scale (n + 1) = scale n ∨ (scale (n + 1) = scale n + 1 ∧ n + 1 = (scale n + 1) * 2 ^ 23) := by
  unfold scale; omega

theorem ulp_of_scale {n m : ℕ} (h : scale m = scale n + 1) : ulp m = 2 * ulp n := by
  unfold ulp
  rw [h, show (((scale n + 1 : ℕ) : ℤ) - 150) = 1 + ((scale n : ℤ) - 150) by push_cast; ring, zpow_add₀ (by norm_num), zpow_one]

/-- The next magnitude is one spacing above. -/
theorem mag_succ (n : ℕ) : mag (n + 1) = mag n + ulp n := by
  rcases scale_succ n with h | ⟨h, hn⟩
  · have hu : ulp (n + 1) = ulp n := by unfold ulp; rw [h]
    unfold mag; rw [hu, h]; push_cast; ring
  · have hr : (n : ℝ) + 1 = (scale n + 1) * 2 ^ 23 := by exact_mod_cast hn
    unfold mag; rw [ulp_of_scale h, h]; push_cast
    rw [show (n : ℝ) = (scale n + 1) * 2 ^ 23 - 1 by linarith]; ring

theorem mag_strictMono : StrictMono mag := strictMono_nat_of_lt_succ fun n => by
  rw [mag_succ]; linarith [ulp_pos n]

theorem mag_zero : mag 0 = 0 := by simp [mag, scale]

theorem mag_nonneg (n : ℕ) : 0 ≤ mag n := by
  rw [← mag_zero]; exact mag_strictMono.monotone (Nat.zero_le n)

/-- The next spacing is at least as wide. -/
theorem ulp_le_succ (n : ℕ) : ulp n ≤ ulp (n + 1) := by
  rcases scale_succ n with h | ⟨h, _⟩
  · unfold ulp; rw [h]
  · rw [ulp_of_scale h]; linarith [ulp_pos n]

/-- A magnitude is at least the power of two where its binade begins, or else it is subnormal. -/
theorem binade_le (n : ℕ) : (2 : ℝ) ^ ((scale n : ℤ) - 127) ≤ max (mag n) (2 ^ (-126 : ℤ)) := by
  by_cases hs : n / 2 ^ 23 ≤ 1
  · refine le_max_of_le_right (le_of_eq ?_)
    have : scale n = 1 := by unfold scale; omega
    rw [this]; rfl
  · refine le_max_of_le_left ?_
    have hd : scale n * 2 ^ 23 ≤ n := by unfold scale; omega
    have hd' : (scale n : ℝ) * 2 ^ 23 ≤ n := by exact_mod_cast hd
    rw [show (scale n : ℤ) - 127 = 23 + ((scale n : ℤ) - 150) by ring, zpow_add₀ (by norm_num)]
    unfold mag ulp
    exact mul_le_mul_of_nonneg_right (by norm_num; linarith) (zpow_nonneg (by norm_num) _)

/-- Two spacings of a binade are 2^-22 of the power of two where it begins. -/
theorem two_ulps (n : ℕ) : (2 : ℝ) ^ (-22 : ℤ) * 2 ^ ((scale n : ℤ) - 127) = 2 * ulp n := by
  unfold ulp
  rw [← zpow_add₀ (by norm_num), show -22 + ((scale n : ℤ) - 127) = 1 + ((scale n : ℤ) - 150) by ring,
    zpow_add₀ (by norm_num), zpow_one]

/-- Below 2^127 there are no more than 253 binades. -/
theorem scale_le (n : ℕ) (h : mag n < 2 ^ (127 : ℤ)) : scale n ≤ 253 := by
  by_contra hs
  have h₁ := (binade_le n).trans (max_le h.le (zpow_le_zpow_right₀ (by norm_num) (by norm_num)))
  have h₂ : (2 : ℝ) ^ (127 : ℤ) ≤ 2 ^ ((scale n : ℤ) - 127) := zpow_le_zpow_right₀ (by norm_num) (by omega)
  have hm : 1 < n / 2 ^ 23 := by unfold scale at hs; omega
  rcases le_max_iff.1 (h₂.trans (binade_le n)) with h₃ | h₃
  · linarith
  · norm_num at h₃

/-- The number that a finite sort key stands for: keys at or above zero are magnitudes, keys below count down from
the negative zero. -/
noncomputable def num (k : ℤ) : ℝ := if 0 ≤ k then mag k.toNat else -mag (-1 - k).toNat

theorem num_mono : Monotone num := by
  refine monotone_int_of_le_succ fun k => ?_
  unfold num
  split <;> split
  · exact mag_strictMono.monotone (by omega)
  · omega
  · have := mag_nonneg (-1 - k).toNat
    have := mag_nonneg (k + 1).toNat
    linarith
  · exact neg_le_neg (mag_strictMono.monotone (by omega))

/-- Two numbers lie two spacings or more apart in every binade that one of them reaches. -/
def Apart (α β : ℝ) : Prop :=
  ∀ s : ℕ, 1 ≤ s → s ≤ 254 → (2 : ℝ) ^ ((s : ℤ) - 127) ≤ max (max |α| |β|) (2 ^ (-126 : ℤ)) → 2 ^ (-22 : ℤ) * 2 ^ ((s : ℤ) - 127) ≤ α - β

/-- A bound lies below the key before the last one that a number reaches. -/
def KeyApart (α : ℝ) (b : EReal) : Prop := ∀ k : ℤ, num k ≤ α → α < num (k + 1) → b < ((num (k - 1) : ℝ) : EReal)

/-- Numbers that lie apart differ by two spacings at any magnitude that one of them reaches. -/
theorem Apart.at {α β : ℝ} (h : Apart α β) (n : ℕ) (hs : scale n ≤ 254) (hn : mag n ≤ max |α| |β|) : 2 * ulp n ≤ α - β := by
  rw [← two_ulps]
  exact h _ (scale_pos n) hs ((binade_le n).trans (max_le_max_right _ hn))

/-- Of two numbers that lie apart, the smaller one is below the key before the last one that the greater one reaches. -/
theorem Apart.below {α β : ℝ} (h : Apart α β) (hα : |α| ≤ 2 ^ (127 : ℤ)) (k : ℤ) (h₁ : num k ≤ α) (h₂ : α < num (k + 1)) :
    β < num (k - 1) := by
  by_contra hc
  rw [not_lt] at hc
  have top (n : ℕ) (hn : mag n < |α|) : scale (n + 1) ≤ 254 := by
    have := scale_le n (hn.trans_le hα)
    rcases scale_succ n with e | ⟨e, _⟩ <;> omega
  rcases lt_trichotomy k 0 with hk | rfl | hk
  · by_cases hk' : k = -1
    · subst hk'
      norm_num [num, mag_zero] at h₁ h₂
      linarith
    · obtain ⟨n, rfl⟩ : ∃ n : ℕ, k = -2 - n := ⟨(-2 - k).toNat, by omega⟩
      have e1 : num (-2 - n + 1) = -mag n := by
        unfold num; rw [if_neg (by omega)]; congr 2; omega
      have e2 : num (-2 - n - 1) = -mag (n + 2) := by
        unfold num; rw [if_neg (by omega)]; congr 2; omega
      have e3 : num (-2 - n) = -mag (n + 1) := by
        unfold num; rw [if_neg (by omega)]; congr 2; omega
      rw [e1] at h₂; rw [e2] at hc; rw [e3] at h₁
      have hn := mag_nonneg n
      have ha : mag n < |α| := by rw [abs_of_neg (by linarith)]; linarith
      have u0 := ulp_pos n
      have u1 := ulp_le_succ n
      have m1 := mag_succ n
      have m2 : mag (n + 2) = mag (n + 1) + ulp (n + 1) := mag_succ (n + 1)
      by_cases hb : mag (n + 1) ≤ |β|
      · linarith [h.at (n + 1) (top n ha) (le_max_of_le_right hb)]
      · have := neg_abs_le β
        linarith [h.at n ((scale_le n (ha.trans_le hα)).trans (by norm_num)) (le_max_of_le_left ha.le)]
  · norm_num [num, mag_zero] at h₁ h₂ hc
    have h0 : mag 1 = mag 0 + ulp 0 := mag_succ 0
    rw [mag_zero] at h0
    have u0 := ulp_pos 0
    have := h.at 0 (by decide) (by rw [mag_zero]; exact le_max_of_le_left (abs_nonneg α))
    linarith
  · obtain ⟨n, rfl⟩ : ∃ n : ℕ, k = n + 1 := ⟨(k - 1).toNat, by omega⟩
    have e1 : num ((n : ℤ) + 1 + 1) = mag (n + 2) := by unfold num; rw [if_pos (by omega)]; congr 1
    have e2 : num ((n : ℤ) + 1 - 1) = mag n := by unfold num; rw [if_pos (by omega)]; congr 1; omega
    have e3 : num ((n : ℤ) + 1) = mag (n + 1) := by unfold num; rw [if_pos (by omega)]; congr 1
    rw [e1] at h₂; rw [e2] at hc; rw [e3] at h₁
    have ha : mag (n + 1) ≤ |α| := h₁.trans (le_abs_self α)
    have u1 := ulp_le_succ n
    have m1 := mag_succ n
    have m2 : mag (n + 2) = mag (n + 1) + ulp (n + 1) := mag_succ (n + 1)
    linarith [h.at (n + 1) (top n ((mag_strictMono (Nat.lt_succ_self n)).trans_le ha)) (le_max_of_le_left ha)]

/-- The magnitude with a clear fraction is a power of two. -/
theorem mag_binade (s : ℕ) (h : 1 ≤ s) : mag (s * 2 ^ 23) = 2 ^ ((s : ℤ) - 127) := by
  have hs : scale (s * 2 ^ 23) = s := by unfold scale; omega
  unfold mag ulp
  rw [hs, show (s : ℤ) - 127 = 23 + ((s : ℤ) - 150) by ring, zpow_add₀ (by norm_num)]
  push_cast
  congr 1
  norm_num
  ring

end Cert.Proof.FloatKey
-- ==== Proof.KeyWord.lean ====
module

public import proofs.«01_k».proof.Proof.FloatKey

@[expose] public section

/-! The words of the two searches: the bit patterns they test, and what those patterns stand for. -/

namespace Cert.Proof.KeyWord

open Idealize.ShloMosaic Cert.Proof.FloatKey

/-- Flipping the low `k` bits of a number reflects its remainder modulo `2 ^ k`. -/
theorem flip_low (n k : ℕ) : n ^^^ (2 ^ k - 1) = n / 2 ^ k * 2 ^ k + (2 ^ k - 1 - n % 2 ^ k) := by
  have hpos : 0 < 2 ^ k := Nat.two_pow_pos k
  have hd : (n ^^^ (2 ^ k - 1)) / 2 ^ k = n / 2 ^ k := by
    rw [Nat.xor_div_two_pow, Nat.div_eq_of_lt (show 2 ^ k - 1 < 2 ^ k by omega), Nat.xor_zero]
  have hm : (n ^^^ (2 ^ k - 1)) % 2 ^ k = 2 ^ k - 1 - n % 2 ^ k := by
    have h := congrArg BitVec.toNat (BitVec.xor_allOnes (x := BitVec.ofNat k n))
    rw [BitVec.toNat_xor, BitVec.toNat_not, BitVec.toNat_allOnes, BitVec.toNat_ofNat] at h
    rw [Nat.xor_mod_two_pow, Nat.mod_eq_of_lt (show 2 ^ k - 1 < 2 ^ k by omega), h]
  have := Nat.div_add_mod (n ^^^ (2 ^ k - 1)) (2 ^ k)
  rw [hd, hm, Nat.mul_comm] at this
  exact this.symm

/-- Flipping bit 15 of a sixteen-bit number. -/
theorem flip_top (n : ℕ) (h : n < 65536) : n ^^^ 32768 = if n < 32768 then n + 32768 else n - 32768 := by
  have hd : (n ^^^ 32768) / 2 ^ 15 = n / 2 ^ 15 ^^^ 1 := by rw [Nat.xor_div_two_pow]
  have hm : (n ^^^ 32768) % 2 ^ 15 = n % 2 ^ 15 := by
    rw [Nat.xor_mod_two_pow, show 32768 % 2 ^ 15 = 0 from rfl, Nat.xor_zero]
  split
  · rw [show n / 2 ^ 15 = 0 by omega, Nat.zero_xor] at hd; omega
  · rw [show n / 2 ^ 15 = 1 by omega, Nat.xor_self] at hd; omega

/-- The sixteen-bit key of the prefix `cu`, a signed word. -/
def cWord (cu : BitVec 32) : BitVec 32 :=
  (cu ^^^ 32768#32) - (if (32768#32).sle (cu ^^^ 32768#32) then 65536#32 else 0#32)

/-- The pattern that the first search tests for the prefix `cu`. -/
def coarseBits (cu : BitVec 32) : BitVec 32 :=
  (if (cWord cu).slt 0#32 then cWord cu ^^^ 32767#32 else cWord cu) <<< 16

/-- The pattern of the key `w`. -/
def keyBits (w : BitVec 32) : BitVec 32 := if w.slt 0#32 then w ^^^ 2147483647#32 else w

theorem cWord_toNat (n : ℕ) (h : n < 65536) :
    (cWord (BitVec.ofNat 32 n)).toNat = if n < 32768 then n + 4294934528 else n - 32768 := by
  have hx : (BitVec.ofNat 32 n ^^^ 32768#32) = BitVec.ofNat 32 (if n < 32768 then n + 32768 else n - 32768) := by
    apply BitVec.eq_of_toNat_eq
    rw [BitVec.toNat_xor, BitVec.toNat_ofNat, BitVec.toNat_ofNat, Nat.mod_eq_of_lt (by omega),
      show 32768 % 2 ^ 32 = 32768 from rfl, flip_top n h, BitVec.toNat_ofNat]
    split <;> omega
  unfold cWord
  rw [hx]
  split
  · rw [if_pos]
    · rw [BitVec.toNat_sub, BitVec.toNat_ofNat, BitVec.toNat_ofNat]; omega
    · rw [BitVec.sle_iff_toInt_le, BitVec.toInt_eq_toNat_cond, BitVec.toInt_eq_toNat_cond, BitVec.toNat_ofNat, BitVec.toNat_ofNat]
      split <;> split <;> omega
  · rw [if_neg]
    · rw [BitVec.toNat_sub, BitVec.toNat_ofNat, BitVec.toNat_ofNat]; omega
    · rw [BitVec.sle_iff_toInt_le, BitVec.toInt_eq_toNat_cond, BitVec.toInt_eq_toNat_cond, BitVec.toNat_ofNat, BitVec.toNat_ofNat]
      split <;> split <;> omega

/-- The sixteen-bit key, as a signed number. -/
theorem cWord_toInt (n : ℕ) (h : n < 65536) : (cWord (BitVec.ofNat 32 n)).toInt = (n : ℤ) - 32768 := by
  rw [BitVec.toInt_eq_toNat_cond, cWord_toNat n h]
  split <;> split <;> omega

theorem slt_zero (w : BitVec 32) : (w.slt 0#32) = decide (2147483648 ≤ w.toNat) := by
  rw [BitVec.slt_eq_decide, BitVec.toInt_eq_toNat_cond]
  have := w.isLt
  simp only [BitVec.toInt_zero]
  congr 1
  rw [eq_iff_iff]
  split <;> omega

/-- The pattern tested for a prefix: a magnitude with its low sixteen bits clear, negative below 32768. -/
theorem coarseBits_toNat (n : ℕ) (h : n < 65536) : (coarseBits (BitVec.ofNat 32 n)).toNat
    = if n < 32768 then 2147483648 + (32767 - n) * 65536 else (n - 32768) * 65536 := by
  unfold coarseBits
  rw [slt_zero, cWord_toNat n h, BitVec.toNat_shiftLeft, Nat.shiftLeft_eq]
  by_cases hn : n < 32768
  · rw [if_pos hn, if_pos hn, if_pos (by simp only [decide_eq_true_eq]; omega), BitVec.toNat_xor, cWord_toNat n h, if_pos hn,
      show (32767#32).toNat = 2 ^ 15 - 1 from rfl, flip_low]
    omega
  · rw [if_neg hn, if_neg hn, if_neg (by simp only [decide_eq_true_eq]; omega), cWord_toNat n h, if_neg hn]
    omega

/-- The pattern of a key: itself at or above zero, a negative magnitude below. -/
theorem keyBits_toNat (w : BitVec 32) : (keyBits w).toNat
    = if 2147483648 ≤ w.toNat then 2147483648 + (4294967295 - w.toNat) else w.toNat := by
  have := w.isLt
  unfold keyBits
  rw [slt_zero]
  by_cases hw : 2147483648 ≤ w.toNat
  · rw [if_pos (by simpa using hw), if_pos hw, BitVec.toNat_xor, show (2147483647#32).toNat = 2 ^ 31 - 1 from rfl, flip_low]
    omega
  · rw [if_neg (by simpa using hw), if_neg hw]

theorem ieee_fields (b : BitVec 32) : (b.extractLsb' 31 1 == 1#1) = decide (2147483648 ≤ b.toNat)
    ∧ (b.extractLsb' 23 8).toNat = b.toNat / 2 ^ 23 % 256 ∧ (b.extractLsb' 0 23).toNat = b.toNat % 2 ^ 23 := by
  have := b.isLt
  refine ⟨?_, ?_, ?_⟩
  · rw [Bool.eq_iff_iff, beq_iff_eq, decide_eq_true_eq, ← BitVec.toNat_inj, BitVec.extractLsb'_toNat, Nat.shiftRight_eq_div_pow]
    show b.toNat / 2 ^ 31 % 2 ^ 1 = 1 ↔ _
    omega
  · rw [BitVec.extractLsb'_toNat, Nat.shiftRight_eq_div_pow]
  · rw [BitVec.extractLsb'_toNat, Nat.shiftRight_zero]

theorem mag_small (n : ℕ) (h : n / 2 ^ 23 = 0) : mag n = ((n % 2 ^ 23 : ℕ) : ℝ) * 2 ^ (-149 : ℤ) := by
  have hs : scale n = 1 := by unfold scale; omega
  have hn : n % 2 ^ 23 = n := by omega
  unfold mag ulp; rw [hs, hn]; norm_num

theorem mag_large (n : ℕ) (h : n / 2 ^ 23 ≠ 0) :
    mag n = ((2 ^ 23 + n % 2 ^ 23 : ℕ) : ℝ) * 2 ^ (((n / 2 ^ 23 : ℕ) : ℤ) - 150) := by
  have hs : scale n = n / 2 ^ 23 := by unfold scale; omega
  have hn : n + 2 ^ 23 = n / 2 ^ 23 * 2 ^ 23 + (2 ^ 23 + n % 2 ^ 23) := by omega
  have hr : (n : ℝ) + 2 ^ 23 = ((n / 2 ^ 23 : ℕ) : ℝ) * 2 ^ 23 + ((2 ^ 23 + n % 2 ^ 23 : ℕ) : ℝ) := by exact_mod_cast hn
  unfold mag ulp; rw [hs]
  congr 1
  linarith

/-- A finite pattern with a clear sign stands for its magnitude. -/
theorem ofBits_pos (b : BitVec 32) (h : b.toNat < 0x7F800000) : Ideal.ofBits .f32 b = ((mag b.toNat : ℝ) : EReal) := by
  obtain ⟨hs, he, hf⟩ := ieee_fields b
  show Ideal.ieee 8 23 b = _
  unfold Ideal.ieee
  simp only [hs, he, hf]
  have h8 : b.toNat / 2 ^ 23 % 256 = b.toNat / 2 ^ 23 := by omega
  rw [h8, if_neg (by omega)]
  have hd : decide (2147483648 ≤ b.toNat) = false := by simp only [decide_eq_false_iff_not]; omega
  rw [hd]
  by_cases hz : b.toNat / 2 ^ 23 = 0
  · rw [if_pos hz, mag_small _ hz]; norm_num
  · rw [if_neg hz, mag_large _ hz]; norm_num [sub_sub]

/-- A finite pattern with a set sign stands for the opposite of its magnitude. -/
theorem ofBits_neg (b : BitVec 32) (n : ℕ) (hb : b.toNat = 2147483648 + n) (h : n < 0x7F800000) :
    Ideal.ofBits .f32 b = ((-mag n : ℝ) : EReal) := by
  obtain ⟨hs, he, hf⟩ := ieee_fields b
  show Ideal.ieee 8 23 b = _
  unfold Ideal.ieee
  simp only [hs, he, hf]
  have h8 : b.toNat / 2 ^ 23 % 256 = n / 2 ^ 23 := by omega
  have h9 : b.toNat % 2 ^ 23 = n % 2 ^ 23 := by omega
  rw [h8, h9, if_neg (by omega)]
  have hd : decide (2147483648 ≤ b.toNat) = true := by simp only [decide_eq_true_eq]; omega
  rw [hd]
  by_cases hz : n / 2 ^ 23 = 0
  · rw [if_pos hz, mag_small _ hz]; norm_num
  · rw [if_neg hz, mag_large _ hz]
    refine congrArg (fun r : ℝ => (r : EReal)) ?_
    norm_num [sub_sub]
    ring

/-- The patterns from plus infinity's word on, with a clear sign: plus infinity. -/
theorem ofBits_top (b : BitVec 32) (h : b.toNat = 0x7F800000) : Ideal.ofBits .f32 b = ⊤ := by
  obtain rfl : b = 0x7F800000#32 := BitVec.eq_of_toNat_eq h
  simp [Ideal.ofBits, Ideal.ieee]

/-- The patterns from minus infinity's word on stand for the least extended real. -/
theorem ofBits_bot (b : BitVec 32) (h : 0xFF800000 ≤ b.toNat) : Ideal.ofBits .f32 b = ⊥ := by
  obtain ⟨hs, he, hf⟩ := ieee_fields b
  have := b.isLt
  show Ideal.ieee 8 23 b = _
  unfold Ideal.ieee
  simp only [hs, he, hf]
  have hd : decide (2147483648 ≤ b.toNat) = true := by simp only [decide_eq_true_eq]; omega
  rw [if_pos (by omega), hd]; simp

/-- What a finite key stands for. -/
theorem value_key (w : BitVec 32) (h₁ : -0x7F800000 ≤ w.toInt) (h₂ : w.toInt < 0x7F800000) :
    Ideal.ofBits .f32 (keyBits w) = ((num w.toInt : ℝ) : EReal) := by
  have hw := w.isLt
  have hb := keyBits_toNat w
  rw [BitVec.toInt_eq_toNat_cond] at h₁ h₂ ⊢
  by_cases hs : 2147483648 ≤ w.toNat
  · rw [if_pos hs] at hb
    rw [if_neg (by omega)] at h₁ h₂ ⊢
    rw [ofBits_neg _ _ hb (by omega)]
    have e : (-1 - ((w.toNat : ℤ) - (2 ^ 32 : ℕ))).toNat = 4294967295 - w.toNat := by omega
    unfold num; rw [if_neg (by omega), e]
  · rw [if_neg hs] at hb
    rw [if_pos (by omega)] at h₁ h₂ ⊢
    rw [ofBits_pos _ (by omega), hb]
    unfold num; rw [if_pos (by omega), Int.toNat_natCast]

/-- The key that a prefix's pattern has. -/
def keyOf (n : ℕ) : ℤ := if n < 32768 then ((n : ℤ) - 32768) * 65536 + 65535 else ((n : ℤ) - 32768) * 65536

/-- What a prefix's pattern stands for, where it is finite. -/
theorem value_coarse (n : ℕ) (h₁ : 0x80 ≤ n) (h₂ : n < 0xFF80) :
    Ideal.ofBits .f32 (coarseBits (BitVec.ofNat 32 n)) = ((num (keyOf n) : ℝ) : EReal) := by
  have hb := coarseBits_toNat n (by omega)
  unfold keyOf num
  by_cases hs : n < 32768
  · rw [if_pos hs] at hb ⊢
    have e : (-1 - (((n : ℤ) - 32768) * 65536 + 65535)).toNat = (32767 - n) * 65536 := by omega
    rw [if_neg (by omega), ofBits_neg _ _ hb (by omega), e]
  · rw [if_neg hs] at hb ⊢
    have e : (((n : ℤ) - 32768) * 65536).toNat = (n - 32768) * 65536 := by omega
    rw [if_pos (by omega), ofBits_pos _ (by omega), hb, e]

end Cert.Proof.KeyWord
-- ==== Proof.Search.lean ====
module

public import Idealize.ShloMosaic.Lib.Exec.Context
public import Idealize.ShloMosaic.PureOps.Ideal
public import Mathlib.Tactic.IntervalCases

@[expose] public section

/-! The two searches of a row, on words: sixteen bits of the greatest prefix that passes a test, then the halving of a
range of keys. -/

namespace Cert.Proof.Search

open Idealize.ShloMosaic

/-- What holds at the start and is kept by every trip holds at the end. -/
theorem fold_inv {σ : Type} {n : ℕ} (g : Fin n → σ → σ) (s : σ) (I : ℕ → σ → Prop) (h0 : I 0 s)
    (hs : ∀ (k : Fin n) (x : σ), I k.val x → I (k.val + 1) (g k x)) : I n (Scf.fold g s) := by
  rw [Scf.fold_eq]
  induction n generalizing s I with
  | zero => exact h0
  | succ n ih =>
    rw [List.finRange_succ, List.foldl_cons, List.foldl_map]
    exact ih (fun k => g k.succ) (g 0 s) (fun i => I (i + 1)) (hs 0 s h0) fun k x h => hs k.succ x h

/-- A part of the carried values that each trip moves on its own is folded on its own. -/
theorem fold_part {σ τ : Type} {n : ℕ} (π : σ → τ) (g : Fin n → σ → σ) (g' : Fin n → τ → τ)
    (h : ∀ k s, π (g k s) = g' k (π s)) (s : σ) : π (Scf.fold g s) = Scf.fold g' (π s) := by
  rw [Scf.fold_eq, Scf.fold_eq]
  exact (List.foldl_hom π (fun x k => (h k x).symm)).symm

/-- The bit that trip `k` of the first search tries. -/
def bit (k : ℕ) : BitVec 32 := Scalar.shli 1#32 (Scalar.subi 15#32 (Scf.iv 0#32 1#32 k))

theorem bit_eq : ∀ k : Fin 16, bit k = BitVec.ofNat 32 (2 ^ (15 - k.val)) := by decide

/-- One trip of the first search: the next bit stays if the prefix with it passes. -/
def trip1 (T : BitVec 32 → Prop) [DecidablePred T] (k : ℕ) (p : BitVec 32) : BitVec 32 :=
  if T (p ||| bit k) then p ||| bit k else p

theorem or_bit (q j : ℕ) (hj : j < 16) (hq : q * 2 ^ (j + 1) < 65536) :
    BitVec.ofNat 32 (q * 2 ^ (j + 1)) ||| BitVec.ofNat 32 (2 ^ j) = BitVec.ofNat 32 (q * 2 ^ (j + 1) + 2 ^ j) := by
  have hlt : 2 ^ j < 2 ^ (j + 1) := Nat.pow_lt_pow_right (by omega) (by omega)
  have hle : 2 ^ j ≤ 2 ^ 15 := Nat.pow_le_pow_right (by omega) (by omega)
  apply BitVec.eq_of_toNat_eq
  rw [BitVec.toNat_or, BitVec.toNat_ofNat, BitVec.toNat_ofNat, BitVec.toNat_ofNat, Nat.mod_eq_of_lt (by omega),
    Nat.mod_eq_of_lt (by omega), Nat.mod_eq_of_lt (by omega), Nat.mul_comm, ← Nat.two_pow_add_eq_or_of_lt hlt]

theorem next_le (m j : ℕ) (hj : j < 16) (hm : m < 65408) : m / 2 ^ (j + 1) * 2 ^ (j + 1) + 2 ^ j ≤ 65408 := by
  interval_cases j <;> omega

theorem next_in (m j : ℕ) (hj : j < 16) (h : m / 2 ^ (j + 1) * 2 ^ (j + 1) + 2 ^ j ≤ m) :
    m / 2 ^ (j + 1) * 2 ^ (j + 1) + 2 ^ j = m / 2 ^ j * 2 ^ j := by
  interval_cases j <;> omega

theorem next_out (m j : ℕ) (hj : j < 16) (h : ¬m / 2 ^ (j + 1) * 2 ^ (j + 1) + 2 ^ j ≤ m) :
    m / 2 ^ (j + 1) * 2 ^ (j + 1) = m / 2 ^ j * 2 ^ j := by
  interval_cases j <;> omega

/-- The first search ends at the greatest prefix that passes, when passing is being at most that one. -/
theorem coarse {N : ℕ} (hN : N = 16) (T : BitVec 32 → Prop) [DecidablePred T] (m : ℕ) (hm : m < 0xFF80)
    (hT : ∀ n ≤ 0xFF80, T (BitVec.ofNat 32 n) ↔ n ≤ m) :
    Scf.fold (fun k : Fin N => trip1 T k.val) 0#32 = BitVec.ofNat 32 m := by
  subst hN
  have h := fold_inv (fun k : Fin 16 => trip1 T k.val) 0#32
    (fun i x => x = BitVec.ofNat 32 (m / 2 ^ (16 - i) * 2 ^ (16 - i))) (by
      rw [Nat.div_eq_of_lt (by omega), Nat.zero_mul]) fun k x hx => ?_
  · simpa using h
  · have hk := k.isLt
    obtain ⟨j, hj⟩ : ∃ j, j = 15 - k.val := ⟨_, rfl⟩
    have e1 : 16 - k.val = j + 1 := by omega
    have e2 : 16 - (k.val + 1) = j := by omega
    rw [e1] at hx
    have hq : m / 2 ^ (j + 1) * 2 ^ (j + 1) ≤ m := Nat.div_mul_le_self _ _
    have hj' : j < 16 := by omega
    have ht := hT _ (next_le m j hj' hm)
    unfold trip1
    rw [hx, bit_eq k, ← hj, or_bit _ _ hj' (by omega), e2]
    by_cases hc : T (BitVec.ofNat 32 (m / 2 ^ (j + 1) * 2 ^ (j + 1) + 2 ^ j))
    · rw [if_pos hc, next_in m j hj' (ht.1 hc)]
    · rw [if_neg hc, next_out m j hj' fun h => hc (ht.2 h)]

/-- One trip of the second search: the range is cut at its middle, above it if the middle passes. -/
def trip2 (T : BitVec 32 → Prop) [DecidablePred T] (s : BitVec 32 × BitVec 32) : BitVec 32 × BitVec 32 :=
  if T (s.1 + ((s.2 - s.1) >>> 1)) then (s.1 + ((s.2 - s.1) >>> 1), s.2) else (s.1, s.1 + ((s.2 - s.1) >>> 1) - 1#32)

theorem middle (l h : BitVec 32) (h₁ : l.toInt ≤ h.toInt) (h₂ : h.toInt - l.toInt ≤ 262144) :
    (l + ((h - l) >>> 1)).toInt = l.toInt + (h.toInt - l.toInt) / 2 := by
  have hl := l.isLt
  have hh := h.isLt
  rw [BitVec.toInt_eq_toNat_cond] at h₁ h₂ ⊢
  rw [BitVec.toInt_eq_toNat_cond] at h₁ h₂ ⊢
  rw [BitVec.toInt_eq_toNat_cond]
  rw [BitVec.toNat_add, BitVec.toNat_ushiftRight, BitVec.toNat_sub, Nat.shiftRight_eq_div_pow]
  split at h₁ <;> split at h₁ <;> split <;> simp only [*, if_true, if_false] at h₂ ⊢ <;> omega

theorem pred (l : BitVec 32) (h : -2147483648 < l.toInt) : (l - 1#32).toInt = l.toInt - 1 := by
  have hl := l.isLt
  rw [BitVec.toInt_eq_toNat_cond] at h ⊢
  rw [BitVec.toInt_eq_toNat_cond]
  rw [BitVec.toNat_sub, show (1#32).toNat = 1 from rfl]
  split at h <;> split <;> omega

/-- The second search ends at the last key that passes or at the one below it. -/
theorem fine {N : ℕ} (hN : N = 18) (T : BitVec 32 → Prop) [DecidablePred T] (K : ℤ) (lo hi : BitVec 32)
    (hlo : lo.toInt ≤ K) (hhi : K ≤ hi.toInt) (hmin : -2147483648 < lo.toInt) (hd : hi.toInt - lo.toInt ≤ 262144)
    (hT : ∀ w : BitVec 32, lo.toInt ≤ w.toInt → w.toInt ≤ hi.toInt → (T w ↔ w.toInt ≤ K)) :
    lo.toInt ≤ (Scf.fold (fun _ : Fin N => trip2 T) (lo, hi)).1.toInt
      ∧ ((Scf.fold (fun _ : Fin N => trip2 T) (lo, hi)).1.toInt = K
        ∨ (Scf.fold (fun _ : Fin N => trip2 T) (lo, hi)).1.toInt = K - 1) := by
  subst hN
  have h := fold_inv (fun _ : Fin 18 => trip2 T) (lo, hi)
    (fun i s => lo.toInt ≤ s.1.toInt ∧ s.1.toInt ≤ K ∧ K ≤ s.2.toInt ∧ s.2.toInt ≤ hi.toInt
      ∧ s.2.toInt - s.1.toInt ≤ 2 ^ (18 - i)) ⟨le_rfl, hlo, hhi, le_rfl, hd⟩ fun k s hs => ?_
  · obtain ⟨h1, h2, h3, h4, h5⟩ := h
    norm_num at h5
    exact ⟨h1, by omega⟩
  · obtain ⟨h1, h2, h3, h4, h5⟩ := hs
    have hk := k.isLt
    rw [show 18 - k.val = 17 - k.val + 1 by omega, pow_succ] at h5
    rw [show 18 - (k.val + 1) = 17 - k.val by omega]
    have hP : (1 : ℤ) ≤ 2 ^ (17 - k.val) := one_le_pow₀ (by norm_num)
    generalize (2 : ℤ) ^ (17 - k.val) = P at h5 hP ⊢
    have hm := middle s.1 s.2 (by omega) (by omega)
    unfold trip2
    have ht := hT (s.1 + ((s.2 - s.1) >>> 1)) (by omega) (by omega)
    by_cases hc : T (s.1 + ((s.2 - s.1) >>> 1))
    · rw [if_pos hc]
      have := ht.1 hc
      refine ⟨?_, ?_, ?_, ?_, ?_⟩ <;> simp only <;> omega
    · rw [if_neg hc]
      have hc' : ¬(s.1 + ((s.2 - s.1) >>> 1)).toInt ≤ K := fun h => hc (ht.2 h)
      have hp := pred (s.1 + ((s.2 - s.1) >>> 1)) (by omega)
      refine ⟨?_, ?_, ?_, ?_, ?_⟩ <;> simp only <;> omega

end Cert.Proof.Search
-- ==== Proof.Row.lean ====
module

public import proofs.«01_k».proof.Proof.TopK
public import proofs.«01_k».proof.Proof.KeyWord
public import proofs.«01_k».proof.Proof.Search

@[expose] public section

/-! The threshold that the two searches find for one row. -/

namespace Cert.Proof.Row

open Idealize.ShloMosaic Cert.Proof.FloatKey Cert.Proof.KeyWord Cert.Proof.Search Cert.Proof.TopK

/-- At least 128 entries of the row reach `t`. -/
def Reach (p : Fin 8192 → EReal) (t : EReal) : Prop := 128 ≤ (Finset.univ.filter fun j => t ≤ p j).card

noncomputable instance (p : Fin 8192 → EReal) : DecidablePred (Reach p) := fun _ => Classical.dec _

/-- The first search's test. -/
def Pass1 (p : Fin 8192 → EReal) (cu : BitVec 32) : Prop := Reach p (Ideal.ofBits .f32 (coarseBits cu))

/-- The second search's test. -/
def Pass2 (p : Fin 8192 → EReal) (w : BitVec 32) : Prop := Reach p (Ideal.ofBits .f32 (keyBits w))

noncomputable instance (p : Fin 8192 → EReal) : DecidablePred (Pass1 p) := fun _ => Classical.dec _
noncomputable instance (p : Fin 8192 → EReal) : DecidablePred (Pass2 p) := fun _ => Classical.dec _

/-- The least key of the second search's range, from the first search's prefix. -/
def loWord (cu : BitVec 32) : BitVec 32 := IntOp.maxsi (cWord cu - 1#32) 4294934528#32 * 65536#32

/-- The greatest key of that range. -/
def hiWord (cu : BitVec 32) : BitVec 32 := IntOp.minsi (cWord cu + 1#32) 32767#32 * 65536#32 + 65535#32

/-- The prefix that `N` trips of the first search find. -/
noncomputable def prefixOf (N : ℕ) (p : Fin 8192 → EReal) : BitVec 32 := Scf.fold (fun k : Fin N => trip1 (Pass1 p) k.val) 0#32

/-- The range that `N` trips of the second search leave, from the prefix `cu`. -/
noncomputable def rangeOf (N : ℕ) (p : Fin 8192 → EReal) (cu : BitVec 32) : BitVec 32 × BitVec 32 :=
  Scf.fold (fun _ : Fin N => trip2 (Pass2 p)) (loWord cu, hiWord cu)

/-- The row's threshold. -/
noncomputable def thresh (N M : ℕ) (p : Fin 8192 → EReal) : EReal := Ideal.ofBits .f32 (keyBits (rangeOf M p (prefixOf N p)).1)

theorem words (n : ℕ) (h₁ : 0x80 ≤ n) (h₂ : n ≤ 0xFF01) : (loWord (BitVec.ofNat 32 n)).toInt = ((n : ℤ) - 32769) * 65536
    ∧ (hiWord (BitVec.ofNat 32 n)).toInt = ((n : ℤ) - 32767) * 65536 + 65535 := by
  have hc := cWord_toInt n (by omega)
  have hw := (cWord (BitVec.ofNat 32 n)).isLt
  unfold loWord hiWord IntOp.maxsi IntOp.minsi
  generalize cWord (BitVec.ofNat 32 n) = c at hc hw
  have hp : (c - 1#32).toInt = (n : ℤ) - 32769 := by rw [pred c (by omega)]; omega
  have hs : (c + 1#32).toInt = (n : ℤ) - 32767 := by
    rw [BitVec.toInt_eq_toNat_cond] at hc ⊢
    rw [BitVec.toNat_add, show (1#32).toNat = 1 from rfl]
    split at hc <;> split <;> omega
  rw [if_pos (by rw [BitVec.slt_eq_decide, hp, decide_eq_true_eq, show (4294934528#32).toInt = -32768 from rfl]; omega),
    if_pos (by rw [BitVec.slt_eq_decide, hs, decide_eq_true_eq, show (32767#32).toInt = 32767 from rfl]; omega)]
  constructor
  · generalize c - 1#32 = d at hp
    have := d.isLt
    rw [BitVec.toInt_eq_toNat_cond] at hp ⊢
    rw [BitVec.toNat_mul, show (65536#32).toNat = 65536 from rfl]
    split at hp <;> split <;> omega
  · generalize c + 1#32 = d at hs
    have := d.isLt
    rw [BitVec.toInt_eq_toNat_cond] at hs ⊢
    rw [BitVec.toNat_add, BitVec.toNat_mul, show (65536#32).toNat = 65536 from rfl, show (65535#32).toNat = 65535 from rfl]
    split at hs <;> split <;> omega

theorem num_bound : num 0x7F000000 = 2 ^ (127 : ℤ) ∧ num (-1 - 0x7F000000) = -2 ^ (127 : ℤ) := by
  have h : mag 0x7F000000 = 2 ^ (127 : ℤ) := by
    have hs : scale 0x7F000000 = 254 := by decide
    unfold mag ulp; rw [hs]; norm_num
  constructor
  · unfold num; rw [if_pos (by omega), ← h]; rfl
  · unfold num; rw [if_neg (by omega), ← h]; rfl

/-- The greatest finite key that stands for at most `α`. -/
theorem exists_last (α : ℝ) (h : |α| ≤ 2 ^ (127 : ℤ)) :
    ∃ K : ℤ, -1 - 0x7F000000 ≤ K ∧ K ≤ 0x7F000000 ∧ (∀ k : ℤ, num k ≤ α ↔ k ≤ K) := by
  obtain ⟨hl, hr⟩ := abs_le.1 h
  have hub : ∀ k : ℤ, num k ≤ α → k ≤ 0x7F000000 := by
    intro k hk
    by_contra hn
    have h1 : num (0x7F000000 + 1) ≤ num k := num_mono (by omega)
    have h2 : num (0x7F000000 + 1) = num 0x7F000000 + ulp 0x7F000000 := by
      unfold num
      rw [if_pos (by omega), if_pos (by omega)]
      exact mag_succ 0x7F000000
    have := ulp_pos 0x7F000000
    rw [num_bound.1] at h2
    linarith
  have hlb : num (-1 - 0x7F000000) ≤ α := by rw [num_bound.2]; exact hl
  obtain ⟨K, hK, hmax⟩ := Int.exists_greatest_of_bdd (P := fun k => num k ≤ α) ⟨_, hub⟩ ⟨_, hlb⟩
  exact ⟨K, hmax _ hlb, hub K hK, fun k => ⟨hmax k, fun hk => (num_mono hk).trans hK⟩⟩

/-- The threshold lies above the 129th entry and at most at the 128th, when those two are separated. -/
theorem thresh_between {N M : ℕ} (hN : N = 16) (hM : M = 18) (p : Fin 8192 → EReal) (α : ℝ)
    (ha : p (order p ⟨127, by omega⟩) = (α : EReal)) (hα : |α| ≤ 2 ^ (127 : ℤ))
    (hb : KeyApart α (p (order p ⟨128, by omega⟩))) :
    thresh N M p ≤ p (order p ⟨127, by omega⟩) ∧ p (order p ⟨128, by omega⟩) < thresh N M p := by
  have hreach : ∀ t, Reach p t ↔ t ≤ (α : EReal) := fun t => by
    rw [← ha, ← enough]
    exact Nat.lt_iff_add_one_le.symm
  obtain ⟨K, hK1, hK2, hK⟩ := exists_last α hα
  have fin1 : ∀ k : ℤ, Reach p ((num k : ℝ) : EReal) ↔ k ≤ K := fun k => by
    rw [hreach, EReal.coe_le_coe_iff, hK]
  obtain ⟨m, hm, hm1, hm2⟩ : ∃ m : ℕ, (m : ℤ) = (if 0 ≤ K then 32768 + K / 65536 else 32768 + (K - 65535) / 65536)
      ∧ 0x80 ≤ m ∧ m ≤ 0xFF00 := by
    refine ⟨(if 0 ≤ K then 32768 + K / 65536 else 32768 + (K - 65535) / 65536).toNat, ?_, ?_, ?_⟩ <;> split <;> omega
  have hpre : prefixOf N p = BitVec.ofNat 32 m := by
    refine coarse hN _ m (by omega) fun n hn => ?_
    unfold Pass1
    by_cases h1 : n < 0x80
    · have := coarseBits_toNat n (by omega)
      rw [if_pos (by omega)] at this
      rw [ofBits_bot _ (by omega), hreach]
      exact iff_of_true bot_le (by omega)
    · by_cases h2 : n = 0xFF80
      · have := coarseBits_toNat n (by omega)
        rw [if_neg (by omega)] at this
        rw [ofBits_top _ (by omega), hreach]
        exact iff_of_false (not_le.2 (EReal.coe_lt_top α)) (by omega)
      · rw [value_coarse n (by omega) (by omega), fin1]
        unfold keyOf
        split at hm <;> split <;> omega
  obtain ⟨hlo, hhi⟩ := words m hm1 (by omega)
  have hlast := hb K ((hK K).2 le_rfl) (lt_of_not_ge fun h => absurd ((hK (K + 1)).1 h) (by omega))
  have hfine := fine hM (Pass2 p) K (loWord (BitVec.ofNat 32 m)) (hiWord (BitVec.ofNat 32 m))
    (by rw [hlo]; split at hm <;> omega) (by rw [hhi]; split at hm <;> omega) (by omega) (by omega) fun w h1 h2 => by
      unfold Pass2
      rw [value_key w (by omega) (by omega), fin1]
  unfold thresh rangeOf
  rw [hpre]
  generalize (Scf.fold (fun _ : Fin M => trip2 (Pass2 p)) (loWord (BitVec.ofNat 32 m), hiWord (BitVec.ofNat 32 m))).1 = r at hfine
  obtain ⟨hr1, hr2⟩ := hfine
  rw [value_key r (by omega) (by omega), ha]
  refine ⟨EReal.coe_le_coe_iff.2 ((hK _).2 (by omega)), hlast.trans_le (EReal.coe_le_coe_iff.2 (num_mono (by omega)))⟩

end Cert.Proof.Row
-- ==== Proof.Count.lean ====
module

public import proofs.«01_k».proof.Proof.IdealRun
public import proofs.«01_k».proof.Proof.Row
public import Idealize.ShloMosaic.Lib.Pointwise

@[expose] public section

set_option maxRecDepth 16384

/-! One trip of each loop of the kernel, read at one row: the vectors count the row's entries that reach a candidate,
and the row's words move as the searches on words do. -/

namespace Cert.Proof.Count

open Cert.KernelIdeal Cert.KernelIdeal.Gen Cert.Proof.KernelIdeal Cert.Proof.Row Cert.Proof.Search Cert.Proof.KeyWord
open Idealize.ShloMosaic

/-- A sum of ones over the entries that reach `t` is at least 128 exactly when 128 entries reach it. -/
theorem reach_iff (p : Fin 8192 → EReal) (t : EReal) :
    Ideal.ofBits .f32 1124073472#32 ≤ (∑ x, if t ≤ p x then (1 : EReal) else 0) ↔ Reach p t := by
  have h : Ideal.ofBits .f32 1124073472#32 = ((128 : ℕ) : EReal) := by
    simp [Ideal.ofBits, Ideal.ieee, -EReal.coe_mul]; norm_num; rfl
  rw [h, Finset.sum_boole, EReal.natCast_le_iff]
  rfl

/-- Adding the two halves of every row keeps the row's sum. -/
theorem halves {A B : ℕ} (h : B = A + A) {φ : FTy} (x : FVec Ideal ⟨2, ![64, B]⟩ φ)
    (h₁ : (⟨2, ![64, B]⟩ : Shape).Slices ![0, 0] ⟨2, ![64, A]⟩) (h₂ : (⟨2, ![64, B]⟩ : Shape).Slices ![0, A] ⟨2, ![64, A]⟩) (r : Fin 64) :
    (∑ l : Fin A, addf (extractStridedSlice ⟨2, ![64, A]⟩ ![0, 0] x h₁) (extractStridedSlice ⟨2, ![64, A]⟩ ![0, A] x h₂) (ix2 r l))
      = ∑ l : Fin B, x (ix2 r l) := by
  subst h
  rw [Fin.sum_univ_add, ← Finset.sum_add_distrib]
  refine Finset.sum_congr rfl fun l _ => ?_
  show x _ + x _ = x _ + x _
  congr 2 <;> funext a <;> apply Fin.ext
  · match a with
    | 0 => exact Nat.zero_add _
    | 1 => exact Nat.zero_add _
  · match a with
    | 0 => exact Nat.zero_add _
    | 1 => rfl

/-- The sums of the rows, the lanes halved until 128 are left. -/
noncomputable def tally (x0 : FVec Ideal S64x8192 .bf16) : FVec Ideal S64x1 .f32 :=
  let x1 := addf (extractStridedSlice S64x4096 ![0, 0] x0 slices_S64x8192_o0_0_S64x4096) (extractStridedSlice S64x4096 ![0, 4096] x0 slices_S64x8192_o0_4096_S64x4096)
  let x2 := addf (extractStridedSlice S64x2048 ![0, 0] x1 slices_S64x4096_o0_0_S64x2048) (extractStridedSlice S64x2048 ![0, 2048] x1 slices_S64x4096_o0_2048_S64x2048)
  let x3 := addf (extractStridedSlice S64x1024 ![0, 0] x2 slices_S64x2048_o0_0_S64x1024) (extractStridedSlice S64x1024 ![0, 1024] x2 slices_S64x2048_o0_1024_S64x1024)
  let x4 := addf (extractStridedSlice S64x512 ![0, 0] x3 slices_S64x1024_o0_0_S64x512) (extractStridedSlice S64x512 ![0, 512] x3 slices_S64x1024_o0_512_S64x512)
  let x5 := addf (extractStridedSlice S64x256 ![0, 0] x4 slices_S64x512_o0_0_S64x256) (extractStridedSlice S64x256 ![0, 256] x4 slices_S64x512_o0_256_S64x256)
  let x6 := addf (extractStridedSlice S64x128 ![0, 0] x5 slices_S64x256_o0_0_S64x128) (extractStridedSlice S64x128 ![0, 128] x5 slices_S64x256_o0_128_S64x128)
  shapeCast S64x1 (multiReduction .add [1] S64 (extf .f32 x6 bitsLt_bf16_f32) 0x00000000#32 reduces_S64x128_S64 (.inl rfl) rfl) shapeCasts_S64_S64x1

theorem last_lanes (y : FVec Ideal S64x128 .bf16) (r : Fin 64) :
    shapeCast S64x1 (multiReduction .add [1] S64 (extf .f32 y bitsLt_bf16_f32) 0x00000000#32 reduces_S64x128_S64 (.inl rfl) rfl)
      shapeCasts_S64_S64x1 (ix2 r 0) = ∑ l : Fin 128, y (ix2 r l) := by
  pointwise

/-- The halving adds every lane of a row once. -/
theorem tally_apply (x : FVec Ideal S64x8192 .bf16) (r : Fin 64) : tally x (ix2 r 0) = ∑ l : Fin 8192, x (ix2 r l) := by
  refine (last_lanes _ r).trans ?_
  refine (halves (A := 128) (B := 256) rfl _ slices_S64x256_o0_0_S64x128 slices_S64x256_o0_128_S64x128 r).trans ?_
  refine (halves (A := 256) (B := 512) rfl _ slices_S64x512_o0_0_S64x256 slices_S64x512_o0_256_S64x256 r).trans ?_
  refine (halves (A := 512) (B := 1024) rfl _ slices_S64x1024_o0_0_S64x512 slices_S64x1024_o0_512_S64x512 r).trans ?_
  refine (halves (A := 1024) (B := 2048) rfl _ slices_S64x2048_o0_0_S64x1024 slices_S64x2048_o0_1024_S64x1024 r).trans ?_
  refine (halves (A := 2048) (B := 4096) rfl _ slices_S64x4096_o0_0_S64x2048 slices_S64x4096_o0_2048_S64x2048 r).trans ?_
  refine (halves (A := 4096) (B := 8192) rfl _ slices_S64x8192_o0_0_S64x4096 slices_S64x8192_o0_4096_S64x4096 r).trans ?_
  rfl

/-- One where an entry reaches the pattern of its row's prefix, zero elsewhere. -/
noncomputable def reached (v : FVec Ideal S64x8192 .bf16) (c : IVec S64x1 32) : FVec Ideal S64x8192 .bf16 :=
  let t := xori c (broadcast S64x1 32768#32)
  let s := subi t (select (cmpi .sge t (broadcast S64x1 32768#32)) (broadcast S64x1 65536#32) (broadcast S64x1 0#32))
  let b := shli (select (cmpi .slt s (broadcast S64x1 0#32)) (xori s (broadcast S64x1 32767#32)) s) (broadcast S64x1 16#32)
  select (cmpf .oge v (broadcastTo S64x8192 (truncf .bf16 (bitcastToFloat .f32 b) bitsLt_bf16_f32) broadcasts_S64x1_S64x8192))
    (broadcast S64x8192 (Scalar.ofBits (F := Ideal) .bf16 0x3F80#16)) (broadcast S64x8192 (Scalar.ofBits (F := Ideal) .bf16 0x0000#16))

/-- A choice by a signed comparison of words. -/
theorem select_slt {α : Type} (x y : BitVec 32) (a b : α) : Scalar.select (IntOp.cmpi .slt x y) a b = if x.slt y then a else b := by
  unfold Scalar.select IntOp.cmpi
  cases x.slt y <;> simp

theorem select_sge {α : Type} (x y : BitVec 32) (a b : α) : Scalar.select (IntOp.cmpi .sge x y) a b = if y.sle x then a else b := by
  unfold Scalar.select IntOp.cmpi
  cases y.sle x <;> simp

theorem select_decide {α : Type} (P : Prop) [Decidable P] (a b : α) : Scalar.select (BitVec.ofBool (decide P)) a b = if P then a else b := by
  unfold Scalar.select
  by_cases h : P <;> simp [h]

theorem reached_apply (v : FVec Ideal S64x8192 .bf16) (c : IVec S64x1 32) (r : Fin 64) (l : Fin 8192) :
    reached v c (ix2 r l) = if Ideal.ofBits .f32 (coarseBits (c (ix2 r 0))) ≤ v (ix2 r l) then 1 else 0 := by
  pointwise [reached]
  simp only [select_slt, select_sge]
  rfl

/-- What the first loop counts for its first half, at a row. -/
theorem pay3_apply (v : FVec Ideal S64x8192 .bf16) (k : Fin k0_t1_loop.trips) (p : IVec S64x1 32) (r : Fin 64) :
    k0_pay3 v 0#32 1#32 k p (ix2 r 0)
      = ∑ l, if Ideal.ofBits .f32 (coarseBits (p (ix2 r 0) ||| bit k.val)) ≤ v (ix2 r l) then (1 : EReal) else 0 := by
  show tally (reached v (k0_pay2 0#32 1#32 k p)) (ix2 r 0) = _
  rw [tally_apply]
  exact Finset.sum_congr rfl fun l _ => reached_apply v _ r l

/-- What the first loop counts for its second half, at a row. -/
theorem pay6_apply (v : FVec Ideal S64x8192 .bf16) (k : Fin k0_t1_loop.trips) (p : IVec S64x1 32) (r : Fin 64) :
    k0_pay6 v p (Scalar.shli 1#32 (Scalar.subi 15#32 (Scf.iv 0#32 1#32 k))) (ix2 r 0)
      = ∑ l, if Ideal.ofBits .f32 (coarseBits (p (ix2 r 0) ||| bit k.val)) ≤ v (ix2 r l) then (1 : EReal) else 0 := by
  show tally (reached v (k0_pay5 p (Scalar.shli 1#32 (Scalar.subi 15#32 (Scf.iv 0#32 1#32 k))))) (ix2 r 0) = _
  rw [tally_apply]
  exact Finset.sum_congr rfl fun l _ => reached_apply v _ r l

/-- One trip of the first loop moves a row's prefix in the first half as the search on words does. -/
theorem step1_fst (lo hi : FVec Ideal S64x8192 .bf16) (k : Fin k0_t1_loop.trips) (p : IVec S64x1 32 × IVec S64x1 32) (r : Fin 64) :
    (step1 lo hi k p).1 (ix2 r 0) = trip1 (Pass1 fun l => lo (ix2 r l)) k.val (p.1 (ix2 r 0)) := by
  show Scalar.select (BitVec.ofBool (decide (Ideal.ofBits .f32 0x43000000#32 ≤ k0_pay3 lo 0#32 1#32 k p.1 (ix2 r 0)))) _ _ = _
  rw [select_decide, pay3_apply]
  exact if_congr (reach_iff _ _) rfl rfl

/-- The same in the second half. -/
theorem step1_snd (lo hi : FVec Ideal S64x8192 .bf16) (k : Fin k0_t1_loop.trips) (p : IVec S64x1 32 × IVec S64x1 32) (r : Fin 64) :
    (step1 lo hi k p).2 (ix2 r 0) = trip1 (Pass1 fun l => hi (ix2 r l)) k.val (p.2 (ix2 r 0)) := by
  show Scalar.select (BitVec.ofBool (decide (Ideal.ofBits .f32 0x43000000#32 ≤
    k0_pay6 hi p.2 (Scalar.shli 1#32 (Scalar.subi 15#32 (Scf.iv 0#32 1#32 k))) (ix2 r 0)))) _ _ = _
  rw [select_decide, pay6_apply]
  exact if_congr (reach_iff _ _) rfl rfl

/-- The second loop's test of its first half, at a row: whether 128 entries reach the middle key. -/
theorem pay8_apply (v : FVec Ideal S64x8192 .f32) (l h : IVec S64x1 32) (r : Fin 64) : k0_pay8 v l h (ix2 r 0)
    = BitVec.ofBool (decide (Pass2 (fun j => v (ix2 r j)) (l (ix2 r 0) + ((h (ix2 r 0) - l (ix2 r 0)) >>> 1)))) := by
  pointwise [k0_pay8, k0_pay7]
  simp only [select_slt]
  congr 1
  exact decide_eq_decide.2 (reach_iff _ _)

/-- One trip of the second loop moves a row's range in the first half as the search on words does. -/
theorem step2_fst (lo hi : FVec Ideal S64x8192 .f32) (k : Fin k0_t2_loop.trips)
    (p : IVec S64x1 32 × IVec S64x1 32 × IVec S64x1 32 × IVec S64x1 32) (r : Fin 64) :
    ((step2 lo hi k p).1 (ix2 r 0), (step2 lo hi k p).2.1 (ix2 r 0))
      = trip2 (Pass2 fun l => lo (ix2 r l)) (p.1 (ix2 r 0), p.2.1 (ix2 r 0)) := by
  show (Scalar.select (k0_pay8 lo p.1 p.2.1 (ix2 r 0)) _ _, Scalar.select (k0_pay8 lo p.1 p.2.1 (ix2 r 0)) _ _) = _
  rw [pay8_apply, select_decide, select_decide]
  unfold trip2
  split <;> rfl

/-- The same in the second half. -/
theorem step2_snd (lo hi : FVec Ideal S64x8192 .f32) (k : Fin k0_t2_loop.trips)
    (p : IVec S64x1 32 × IVec S64x1 32 × IVec S64x1 32 × IVec S64x1 32) (r : Fin 64) :
    ((step2 lo hi k p).2.2.1 (ix2 r 0), (step2 lo hi k p).2.2.2 (ix2 r 0))
      = trip2 (Pass2 fun l => hi (ix2 r l)) (p.2.2.1 (ix2 r 0), p.2.2.2 (ix2 r 0)) := by
  show (Scalar.select (k0_pay8 hi p.2.2.1 p.2.2.2 (ix2 r 0)) _ _, Scalar.select (k0_pay8 hi p.2.2.1 p.2.2.2 (ix2 r 0)) _ _) = _
  rw [pay8_apply, select_decide, select_decide]
  unfold trip2
  split <;> rfl

end Cert.Proof.Count
-- ==== Proof.Block.lean ====
module

public import proofs.«01_k».proof.Proof.Count

@[expose] public section

set_option maxRecDepth 16384

/-! What one block of the kernel computes: at every token, the entries of the pre-activation that reach the token's
threshold, times the decoder, plus the bias. -/

namespace Cert.Proof.Block

open Cert.KernelIdeal Cert.KernelIdeal.Gen Cert.Proof.KernelIdeal Cert.Proof.Row Cert.Proof.Search Cert.Proof.KeyWord Cert.Proof.Count
open Idealize.ShloMosaic

/-- The first half's prefix at a row. -/
theorem prefixes_fst (lo hi : FVec Ideal S64x8192 .bf16) (r : Fin 64) :
    (prefixes lo hi).1 (ix2 r 0) = prefixOf k0_t1_loop.trips fun l => lo (ix2 r l) :=
  fold_part (fun s => s.1 (ix2 r 0)) _ _ (fun k s => step1_fst lo hi k s r) _

/-- The second half's prefix at a row. -/
theorem prefixes_snd (lo hi : FVec Ideal S64x8192 .bf16) (r : Fin 64) :
    (prefixes lo hi).2 (ix2 r 0) = prefixOf k0_t1_loop.trips fun l => hi (ix2 r l) :=
  fold_part (fun s => s.2 (ix2 r 0)) _ _ (fun k s => step1_snd lo hi k s r) _

/-- Where the first half's range starts at a row. -/
theorem starts_fst (p : IVec S64x1 32) (r : Fin 64) :
    (k0_pay26 (k0_pay24 p) (ix2 r 0), k0_pay27 (k0_pay25 p) (ix2 r 0)) = (loWord (p (ix2 r 0)), hiWord (p (ix2 r 0))) := by
  pointwise [k0_pay26, k0_pay27, k0_pay25, k0_pay24, k0_pay23]
  simp only [select_sge]
  rfl

/-- Where the second half's range starts at a row. -/
theorem starts_snd (p : IVec S64x1 32) (r : Fin 64) :
    (k0_pay29 p (ix2 r 0), k0_pay30 p (ix2 r 0)) = (loWord (p (ix2 r 0)), hiWord (p (ix2 r 0))) := by
  pointwise [k0_pay28, k0_pay29, k0_pay30]
  simp only [select_sge]
  rfl

/-- The first half's range at a row. -/
theorem ranges_fst (lo hi : FVec Ideal S64x8192 .f32) (q p : IVec S64x1 32) (r : Fin 64) :
    (ranges lo hi q (k0_pay24 p) (k0_pay25 p)).1 (ix2 r 0) = (rangeOf k0_t2_loop.trips (fun l => lo (ix2 r l)) (p (ix2 r 0))).1 := by
  unfold rangeOf
  rw [← starts_fst p r]
  exact congrArg Prod.fst (fold_part (fun s => (s.1 (ix2 r 0), s.2.1 (ix2 r 0))) _ _ (fun k s => step2_fst lo hi k s r) _)

/-- The second half's range at a row. -/
theorem ranges_snd (lo hi : FVec Ideal S64x8192 .f32) (q p₀ p₁ : IVec S64x1 32) (r : Fin 64) :
    (ranges lo hi q p₀ p₁).2.2.1 (ix2 r 0) = (rangeOf k0_t2_loop.trips (fun l => hi (ix2 r l)) (q (ix2 r 0))).1 := by
  unfold rangeOf
  rw [← starts_snd q r]
  exact congrArg Prod.fst (fold_part (fun s => (s.2.2.1 (ix2 r 0), s.2.2.2 (ix2 r 0))) _ _ (fun k s => step2_snd lo hi k s r) _)

/-- The pre-activation of a block's token. -/
noncomputable def row (x : Vec Ideal S128x768 .f32) (wt : Vec Ideal S768x8192 .f32) (b1 : Vec Ideal S1x8192 .f32) (b2 : Vec Ideal S1x768 .f32)
    (r : Fin 128) (j : Fin 8192) : EReal :=
  (∑ d : Fin 768, (x (ix2 r d) - b2 (ix2 0 d)) * wt (ix2 d j)) + b1 (ix2 0 j)

theorem pay14_apply (x : Vec Ideal S128x768 .f32) (wt : Vec Ideal S768x8192 .f32) (b1 : Vec Ideal S1x8192 .f32) (b2 : Vec Ideal S1x768 .f32)
    (r : Fin 128) (j : Fin 8192) : k0_pay14 x b2 wt b1 (ix2 r j) = row x wt b1 b2 r j := by
  pointwise [k0_pay14, row]

/-- The first 64 tokens, exactly and rounded. -/
theorem first_half (x : Vec Ideal S128x768 .f32) (wt : Vec Ideal S768x8192 .f32) (b1 : Vec Ideal S1x8192 .f32) (b2 : Vec Ideal S1x768 .f32)
    (r : Fin 128) (h : r.val < 64) (j : Fin 8192) : k0_pay16 x b2 wt b1 (ix2 ⟨r.val, h⟩ j) = row x wt b1 b2 r j
      ∧ k0_pay18 x b2 wt b1 (ix2 ⟨r.val, h⟩ j) = row x wt b1 b2 r j := by
  constructor
  · refine Eq.trans ?_ (pay14_apply x wt b1 b2 r j)
    unfold k0_pay16
    pointwise
  · refine Eq.trans ?_ (pay14_apply x wt b1 b2 r j)
    unfold k0_pay18 k0_pay15
    pointwise

/-- The last 64 tokens, exactly and rounded. -/
theorem second_half (x : Vec Ideal S128x768 .f32) (wt : Vec Ideal S768x8192 .f32) (b1 : Vec Ideal S1x8192 .f32) (b2 : Vec Ideal S1x768 .f32)
    (r : Fin 128) (h : r.val - 64 < 64) (h' : ¬r.val < 64) (j : Fin 8192) :
    k0_pay17 x b2 wt b1 (ix2 ⟨r.val - 64, h⟩ j) = row x wt b1 b2 r j
      ∧ k0_pay19 x b2 wt b1 (ix2 ⟨r.val - 64, h⟩ j) = row x wt b1 b2 r j := by
  have e : (⟨64 + (r.val - 64), by omega⟩ : Fin 128) = r := Fin.ext (by show 64 + (r.val - 64) = r.val; omega)
  constructor
  · refine Eq.trans ?_ (pay14_apply x wt b1 b2 r j)
    unfold k0_pay17
    pointwise
    rw [e]
  · refine Eq.trans ?_ (pay14_apply x wt b1 b2 r j)
    unfold k0_pay19 k0_pay15
    pointwise
    rw [e]

/-- The masked product of a block, from the two halves' keys. -/
theorem pay1_apply (v : FVec Ideal S128x8192 .f32) (a b : IVec S64x1 32) (w : Vec Ideal S8192x768 .bf16) (b2 : Vec Ideal S1x768 .f32)
    (r : Fin 128) (d : Fin 768) (t : EReal) (h₁ : ∀ h : r.val < 64, Ideal.ofBits .f32 (keyBits (a (ix2 ⟨r.val, h⟩ 0))) = t)
    (h₂ : ∀ h : r.val - 64 < 64, ¬r.val < 64 → Ideal.ofBits .f32 (keyBits (b (ix2 ⟨r.val - 64, h⟩ 0))) = t) :
    k0_pay1 v b (k0_pay32 a) (k0_pay33 b) k0_pay34 w b2 (ix2 r d)
      = (∑ j : Fin 8192, (if t ≤ v (ix2 r j) then v (ix2 r j) else 0) * w (ix2 j d)) + b2 (ix2 0 d) := by
  pointwise [k0_pay1, k0_pay32, k0_pay33, k0_pay34]
  simp only [select_slt]
  by_cases h : r.val < 64
  · simp only [dif_pos h]
    rw [← h₁ h]
    rfl
  · simp only [dif_neg h]
    rw [← h₂ (by omega) h]
    rfl

/-- What the block holds at a token and a feature. -/
theorem block_apply (x : Vec Ideal S128x768 .f32) (wt : Vec Ideal S768x8192 .f32) (w : Vec Ideal S8192x768 .bf16) (b1 : Vec Ideal S1x8192 .f32)
    (b2 : Vec Ideal S1x768 .f32) (r : Fin 128) (d : Fin 768) : block x wt w b1 b2 (ix2 r d)
      = (∑ j : Fin 8192, (if thresh k0_t1_loop.trips k0_t2_loop.trips (row x wt b1 b2 r) ≤ row x wt b1 b2 r j
          then row x wt b1 b2 r j else 0) * w (ix2 j d)) + b2 (ix2 0 d) := by
  unfold block
  refine (pay1_apply _ _ _ w b2 r d (thresh k0_t1_loop.trips k0_t2_loop.trips (row x wt b1 b2 r)) (fun h => ?_) fun h h' => ?_).trans ?_
  · rw [ranges_fst, prefixes_fst, funext fun j => (first_half x wt b1 b2 r h j).1, funext fun j => (first_half x wt b1 b2 r h j).2]
    rfl
  · rw [ranges_snd, prefixes_snd, funext fun j => (second_half x wt b1 b2 r h h' j).1, funext fun j => (second_half x wt b1 b2 r h h' j).2]
    rfl
  · simp only [pay14_apply]

end Cert.Proof.Block
-- ==== Proof.Ranked.lean ====
module

public import proofs.«01_k».proof.Proof.TopK
public import Idealize.ShloMosaic.Lib.Pointwise

@[expose] public section

/-! The host's `top_k` along the rows of a matrix, read at one row and one rank. -/

namespace Cert.Proof.Ranked

open Idealize.ShloMosaic Cert.Proof.TopK

variable {R N K : ℕ}

theorem along_row (r : Fin R) (k q : Fin N) (h : 1 < (⟨2, ![R, N]⟩ : Shape).rank) :
    (ix2 r k : (⟨2, ![R, N]⟩ : Shape).Idx).along ⟨1, h⟩ q = ix2 r q := by
  funext a
  match a with
  | 0 => rfl
  | 1 => rfl

theorem cut (r : Fin R) (k : Fin K) (hK : K ≤ N) {α : Type} (x : (⟨2, ![R, N]⟩ : Shape).Idx → α)
    (h : (⟨2, ![R, N]⟩ : Shape).Slices (fun _ => 0) ⟨2, ![R, K]⟩) :
    extractStridedSlice ⟨2, ![R, K]⟩ (fun _ => 0) x h (ix2 r k) = x (ix2 r ⟨k.val, k.isLt.trans_le hK⟩) := by
  show x _ = x _
  congr 1
  funext a
  apply Fin.ext
  match a with
  | 0 => exact Nat.zero_add _
  | 1 => exact Nat.zero_add _

/-- The value at a rank is the row's entry there. -/
theorem value (x : FVec Ideal ⟨2, ![R, N]⟩ .f32) (h : (⟨2, ![R, N]⟩ : Shape).Slices (fun _ => 0) ⟨2, ![R, K]⟩) (hK : K ≤ N)
    (r : Fin R) (k : Fin K) :
    (Host.topK ⟨2, ![R, K]⟩ 1 (FloatOps.cmpfTotal (F := Ideal) (φ := .f32) .gt) x h).1 (ix2 r k)
      = x (ix2 r (order (fun j => x (ix2 r j)) ⟨k.val, k.isLt.trans_le hK⟩)) := by
  unfold Host.topK
  dsimp only
  rw [cut r k hK]
  unfold Host.sort2
  rw [dif_pos (show 1 < (⟨2, ![R, N]⟩ : Shape).rank from Nat.one_lt_two)]
  refine (congrArg x (along_row r _ _ _)).trans ?_
  exact congrArg (fun f : Fin N → Fin N → Bool => x (ix2 r (sortedFrom f ⟨k.val, k.isLt.trans_le hK⟩)))
    (funext fun a => funext fun b => congrArg₂ (fun i j => FloatOps.cmpfTotal (F := Ideal) (φ := .f32) .gt (x i) (x j) == 1#1)
      (along_row r _ a Nat.one_lt_two) (along_row r _ b Nat.one_lt_two))

/-- The index at a rank is the word of the entry's position. -/
theorem index (x : FVec Ideal ⟨2, ![R, N]⟩ .f32) (h : (⟨2, ![R, N]⟩ : Shape).Slices (fun _ => 0) ⟨2, ![R, K]⟩) (hK : K ≤ N)
    (r : Fin R) (k : Fin K) :
    (Host.topK ⟨2, ![R, K]⟩ 1 (FloatOps.cmpfTotal (F := Ideal) (φ := .f32) .gt) x h).2 (ix2 r k)
      = BitVec.ofNat 32 (order (fun j => x (ix2 r j)) ⟨k.val, k.isLt.trans_le hK⟩).val := by
  unfold Host.topK
  dsimp only
  rw [cut r k hK]
  unfold Host.sort2
  rw [dif_pos (show 1 < (⟨2, ![R, N]⟩ : Shape).rank from Nat.one_lt_two)]
  refine (congrArg (fun i => if hd : 1 < (⟨2, ![R, N]⟩ : Shape).rank then iotaInDim (⟨2, ![R, N]⟩ : Shape) 32 ⟨1, hd⟩ i else 0#32)
    (along_row r _ _ _)).trans ?_
  exact congrArg (fun f : Fin N → Fin N → Bool => BitVec.ofNat 32 (sortedFrom f ⟨k.val, k.isLt.trans_le hK⟩).val)
    (funext fun a => funext fun b => congrArg₂ (fun i j => FloatOps.cmpfTotal (F := Ideal) (φ := .f32) .gt (x i) (x j) == 1#1)
      (along_row r _ a Nat.one_lt_two) (along_row r _ b Nat.one_lt_two))

end Cert.Proof.Ranked
-- ==== Proof.Reference.lean ====
module

public import proofs.«01_k».proof.Proof.Gen.ReferenceIdeal.Run
public import proofs.«01_k».proof.Proof.Ranked
public import Idealize.ShloMosaic.Lib.Tactic.CleanTypes

@[expose] public section

set_option maxRecDepth 16384

/-! What the reference computes: at every token, the 128 greatest entries of the pre-activation times their rows of
the decoder, plus the bias. -/

namespace Cert.Proof.Reference

open Cert.ReferenceIdeal Cert.ReferenceIdeal.Gen Cert.Proof.TopK
open Idealize.ShloMosaic Idealize.ShloMosaic.TcCoe Idealize.SL.Sem

/-- A conjunction of ones is one. -/
theorem all_ones (x : IVec S8192x128x1 1) (hx : ∀ i, x i = 1#1) (j : S8192x128.Idx) :
    Host.reduce IntOp.andi x (constantI S_ 1 1#1) reducesTo_S8192x128x1_S8192x128_d2 h_S_ j = 1#1 := by
  unfold Host.reduce
  generalize (List.finRange _).filter _ = L
  show L.foldl _ 1#1 = 1#1
  induction L with
  | nil => rfl
  | cons a L ih =>
    rw [List.foldl_cons, hx]
    exact ih

/-- The decoder's row that an index names, when it names one. -/
theorem take (w : FVec Ideal S8192x768 .f32) (idx : IVec S8192x128x1 32) (r : Fin 8192) (k : Fin 128) (d : Fin 768) (n : Fin 8192)
    (h : idx (ix3 r k 0) = BitVec.ofNat 32 n.val) :
    Host.gather gather_S8192x768_S8192x128x1_S8192x128x768_2_0_n_n_0_2_1768 w idx (ix3 r k d) = w (ix2 n d) := by
  have hn : min (BitVec.ofNat 32 n.val).toInt.toNat (8192 - 1) = n.val := by
    have := n.isLt
    rw [BitVec.toInt_eq_toNat_of_lt (by rw [BitVec.toNat_ofNat]; omega), BitVec.toNat_ofNat]
    omega
  have hi : gather_S8192x768_S8192x128x1_S8192x128x768_2_0_n_n_0_2_1768.siIdx (ix3 r k d) ⟨0, Nat.one_pos⟩ = ix3 r k 0 := by
    funext a
    match a with
    | 0 => rfl
    | 1 => rfl
    | 2 => rfl
  show w _ = w _
  congr 1
  funext a
  apply Fin.ext
  match a with
  | 0 =>
    refine Eq.trans ?_ hn
    rw [← h, ← hi]
    rfl
  | 1 => exact Nat.zero_add _

/-- The indices of the greatest entries, a negative one counted from the end. -/
noncomputable def places (P : FVec Ideal S8192x8192 .f32) : IVec S8192x128x1 32 :=
  let i := (Host.topK S8192x128 1 (FloatOps.cmpfTotal (F := Ideal) (φ := .f32) .gt) P sliceFits_S8192x8192_S8192x128).2
  broadcastInDim S8192x128x1 ![0, 1] bcast_S8192x128_S8192x128x1_0_1
    (select (cmpi .slt i (broadcastInDim S8192x128 ![] bcast_S_S8192x128 (constantI S_ 32 0#32)))
      (addi i (broadcastInDim S8192x128 ![] bcast_S_S8192x128 (constantI S_ 32 8192#32))) i)

/-- Whether each of those indices lies in the decoder. -/
noncomputable def inside (i : IVec S8192x128x1 32) : IVec S8192x128x1 1 :=
  andi (cmpi .sge i (broadcastInDim S8192x128x1 ![] bcast_S_S8192x128x1 (constantI S_ 32 0#32)))
    (cmpi .sle i (broadcastInDim S8192x128x1 ![0, 1, 2] bcast_S1x1x1_S8192x128x1_0_1_2
      (broadcastInDim S1x1x1 ![2] bcast_S1_S1x1x1_2 (constantI S1 32 8191#32))))

/-- The decoder's rows at those indices. -/
noncomputable def taken (P : FVec Ideal S8192x8192 .f32) (w : FVec Ideal S8192x768 .f32) : FVec Ideal S8192x128x768 .f32 :=
  select (broadcastInDim S8192x128x768 ![0, 1] bcast_S8192x128_S8192x128x768_0_1
      (Host.reduce IntOp.andi (inside (places P)) (constantI S_ 1 1#1) reducesTo_S8192x128x1_S8192x128_d2 h_S_))
    (Host.gather gather_S8192x768_S8192x128x1_S8192x128x768_2_0_n_n_0_2_1768 w (places P))
    (broadcastInDim S8192x128x768 ![] bcast_S_S8192x128x768 (constant S_ .f32 0x7FC00000#32))

/-- The words of positions are not negative and lie below the number of rows. -/
theorem word_bounds (n : Fin 8192) : (BitVec.ofNat 32 n.val).slt 0#32 = false ∧ (0#32).sle (BitVec.ofNat 32 n.val) = true
    ∧ (BitVec.ofNat 32 n.val).sle 8191#32 = true := by
  have := n.isLt
  have h : (BitVec.ofNat 32 n.val).toInt = n.val := by
    rw [BitVec.toInt_eq_toNat_of_lt (by rw [BitVec.toNat_ofNat]; omega), BitVec.toNat_ofNat]
    omega
  rw [BitVec.slt_eq_decide, BitVec.sle_eq_decide, BitVec.sle_eq_decide, h, show (0#32).toInt = 0 from rfl,
    show (8191#32).toInt = 8191 from rfl]
  refine ⟨decide_eq_false (by omega), decide_eq_true (by omega), decide_eq_true (by omega)⟩

theorem places_apply (P : FVec Ideal S8192x8192 .f32) (r : Fin 8192) (k : Fin 128) :
    places P (ix3 r k 0) = BitVec.ofNat 32 (order (fun j => P (ix2 r j)) ⟨k.val, by omega⟩).val := by
  have h := Ranked.index P sliceFits_S8192x8192_S8192x128 (by decide) r k
  unfold places
  generalize (Host.topK S8192x128 1 _ P _).2 = i at h
  pointwise
  rw [h]
  unfold Scalar.select IntOp.cmpi
  rw [(word_bounds _).1]
  rfl

theorem inside_apply (P : FVec Ideal S8192x8192 .f32) (i : S8192x128x1.Idx) : inside (places P) i = 1#1 := by
  obtain ⟨r, k, z, rfl⟩ : ∃ r k z, i = ix3 r k z := ⟨i 0, i 1, i 2, by
    funext a
    match a with
    | 0 => rfl
    | 1 => rfl
    | 2 => rfl⟩
  obtain rfl : z = 0 := Subsingleton.elim _ _
  have h := places_apply P r k
  generalize places P = v at h
  pointwise [inside]
  rw [h]
  unfold IntOp.cmpi
  rw [(word_bounds _).2.1, (word_bounds _).2.2]
  simp [IntOp.andi]

/-- What is taken at a rank is the decoder's row at the entry of that rank. -/
theorem taken_apply (P : FVec Ideal S8192x8192 .f32) (w : FVec Ideal S8192x768 .f32) (r : Fin 8192) (k : Fin 128) (d : Fin 768) :
    taken P w (ix3 r k d) = w (ix2 (order (fun j => P (ix2 r j)) ⟨k.val, by omega⟩) d) := by
  have h : Host.reduce IntOp.andi (inside (places P)) (constantI S_ 1 1#1) reducesTo_S8192x128x1_S8192x128_d2 h_S_ = fun _ => 1#1 :=
    funext fun j => all_ones _ (inside_apply P) j
  unfold taken
  rw [h]
  show Scalar.select 1#1 (Host.gather _ w (places P) (ix3 r k d)) _ = _
  rw [take w _ r k d _ (places_apply P r k)]
  rfl

/-- The pre-activation of a token. -/
noncomputable def row (x : FVec Ideal S8192x768 .f32) (wt : FVec Ideal S768x8192 .f32) (b1 : FVec Ideal S8192 .f32) (b2 : FVec Ideal S768 .f32)
    (r : Fin 8192) (j : Fin 8192) : EReal :=
  (∑ d : Fin 768, (x (ix2 r d) - b2 (ix1 d)) * wt (ix2 d j)) + b1 (ix1 j)

/-- The pre-activations, as the program's operations. -/
noncomputable def pre (x : FVec Ideal S8192x768 .f32) (wt : FVec Ideal S768x8192 .f32) (b1 : FVec Ideal S8192 .f32) (b2 : FVec Ideal S768 .f32) :
    FVec Ideal S8192x8192 .f32 :=
  addf (Host.dotGeneral dot_S8192x768_S768x8192_S8192x8192_1_0_0_1_n_n none
      (subf x (broadcastInDim S8192x768 ![0, 1] bcast_S1x768_S8192x768_0_1 (broadcastInDim S1x768 ![1] bcast_S768_S1x768_1 b2))) wt)
    (broadcastInDim S8192x8192 ![0, 1] bcast_S1x8192_S8192x8192_0_1 (broadcastInDim S1x8192 ![1] bcast_S8192_S1x8192_1 b1))

theorem pre_apply (x : FVec Ideal S8192x768 .f32) (wt : FVec Ideal S768x8192 .f32) (b1 : FVec Ideal S8192 .f32) (b2 : FVec Ideal S768 .f32)
    (r j : Fin 8192) : pre x wt b1 b2 (ix2 r j) = row x wt b1 b2 r j := by
  pointwise [pre, row]

/-- The decoding of values and rows that are given. -/
theorem decode (v : FVec Ideal S8192x128 .f32) (g : FVec Ideal S8192x128x768 .f32) (b2 : FVec Ideal S768 .f32) (r : Fin 8192) (d : Fin 768) :
    addf (Host.dotGeneral (F := Ideal) dot_S8192x128_S8192x128x768_S8192x768_1_1_n_2_0_0 none v g)
        (broadcastInDim S8192x768 ![0, 1] bcast_S1x768_S8192x768_0_1 (broadcastInDim S1x768 ![1] bcast_S768_S1x768_1 b2)) (ix2 r d)
      = (∑ k : Fin 128, v (ix2 r k) * g (ix3 r k d)) + b2 (ix1 d) := by
  pointwise

/-- The reference's result at a token and a feature. -/
theorem result (m : (ℓ : Loc nD τ sig) → Buf (Elt Ideal) ℓ) (c : Dev nD)
    (x : FVec Ideal S8192x768 .f32) (w : FVec Ideal S8192x768 .f32) (wt : FVec Ideal S768x8192 .f32) (b1 : FVec Ideal S8192 .f32)
    (b2 : FVec Ideal S768 .f32) (h0 : m ((c.tc : Thread nD τ).loc main_arg0) = x) (h1 : m ((c.tc : Thread nD τ).loc main_arg1) = w)
    (h2 : m ((c.tc : Thread nD τ).loc main_arg2) = wt) (h3 : m ((c.tc : Thread nD τ).loc main_arg3) = b1)
    (h4 : m ((c.tc : Thread nD τ).loc main_arg4) = b2) (r : Fin 8192) (d : Fin 768) :
    (Cert.ReferenceIdeal.Value.res_main_v11 m c : FVec Ideal S8192x768 .f32) (ix2 r d)
      = (∑ k : Fin 128, row x wt b1 b2 r (order (row x wt b1 b2 r) ⟨k.val, by omega⟩)
          * w (ix2 (order (row x wt b1 b2 r) ⟨k.val, by omega⟩) d)) + b2 (ix1 d) := by
  subst h0 h1 h2 h3 h4
  refine (decode (Host.topK S8192x128 1 (FloatOps.cmpfTotal (F := Ideal) (φ := .f32) .gt)
    (pre (m ((c.tc : Thread nD τ).loc main_arg0)) (m ((c.tc : Thread nD τ).loc main_arg2)) (m ((c.tc : Thread nD τ).loc main_arg3))
      (m ((c.tc : Thread nD τ).loc main_arg4))) sliceFits_S8192x8192_S8192x128).1
    (taken (pre (m ((c.tc : Thread nD τ).loc main_arg0)) (m ((c.tc : Thread nD τ).loc main_arg2)) (m ((c.tc : Thread nD τ).loc main_arg3))
      (m ((c.tc : Thread nD τ).loc main_arg4))) (m ((c.tc : Thread nD τ).loc main_arg1))) (m ((c.tc : Thread nD τ).loc main_arg4)) r d).trans ?_
  congr 1
  refine Finset.sum_congr rfl fun k _ => ?_
  rw [taken_apply, Ranked.value _ sliceFits_S8192x8192_S8192x128 (by decide) r k]
  simp only [pre_apply]

end Cert.Proof.Reference
-- ==== Proof.Array.lean ====
module

public import proofs.«01_k».proof.Proof.Block
public import proofs.«01_k».proof.Proof.Reference
public import Idealize.ShloMosaic.Lib.Pipeline.Value
public import Idealize.ShloMosaic.Lib.Pipeline.ValueKit

@[expose] public section

set_option maxRecDepth 16384

/-! What the kernel's result array holds after the run, at every token and feature. -/

namespace Cert.Proof.Array

open Cert.KernelIdeal Cert.KernelIdeal.Gen Cert.Proof.KernelIdeal Cert.Proof.Row
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The kernel's arguments on a device: tokens, decoder, encoder and the two biases. -/
abbrev argX (c : Dev nD) : FVec Ideal S8192x768 .f32 := m ((c : Thread nD τ).loc main_arg0)
abbrev argW (c : Dev nD) : FVec Ideal S8192x768 .f32 := m ((c : Thread nD τ).loc main_arg1)
abbrev argWT (c : Dev nD) : FVec Ideal S768x8192 .f32 := m ((c : Thread nD τ).loc main_arg2)
abbrev argB1 (c : Dev nD) : FVec Ideal S8192 .f32 := m ((c : Thread nD τ).loc main_arg3)
abbrev argB2 (c : Dev nD) : FVec Ideal S768 .f32 := m ((c : Thread nD τ).loc main_arg4)

/-- The index maps of the windows over the grid. -/
theorem idx : ∀ t : Fin grid0.N, win0_0.index t = ![t.val, 0] ∧ win0_1.index t = ![0, 0] ∧ win0_2.index t = ![0, 0]
    ∧ win0_3.index t = ![0, 0] ∧ win0_4.index t = ![0, 0] ∧ win0_5.index t = ![t.val, 0] := by decide +kernel

theorem token (t : Fin cfg0.N) (r : Fin 128) : t.val * 128 + r.val < 8192 := by
  have := t.isLt
  have h : cfg0.N = 64 := by decide
  omega

theorem blk_x (c : Dev nD) (t : Fin cfg0.N) (r : Fin 128) (d : Fin 768) :
    (iblk m c 0 t : Vec Ideal S128x768 .f32) (ix2 r d) = argX m c (ix2 ⟨t.val * 128 + r.val, token t r⟩ d) := by
  blk_ext [iblk, V, idx t]

theorem blk_wt (c : Dev nD) (t : Fin cfg0.N) (d : Fin 768) (j : Fin 8192) :
    (iblk m c 1 t : Vec Ideal S768x8192 .f32) (ix2 d j) = argWT m c (ix2 d j) := by
  blk_ext [iblk, V, idx t]

theorem blk_w (c : Dev nD) (t : Fin cfg0.N) (j : Fin 8192) (d : Fin 768) :
    (iblk m c 2 t : Vec Ideal S8192x768 .bf16) (ix2 j d) = argW m c (ix2 j d) := by
  blk_ext! [iblk, V, idx t]

theorem blk_b1 (c : Dev nD) (t : Fin cfg0.N) (j : Fin 8192) :
    (iblk m c 3 t : Vec Ideal S1x8192 .f32) (ix2 0 j) = argB1 m c (ix1 j) := by
  blk_ext! [iblk, V, idx t]

theorem blk_b2 (c : Dev nD) (t : Fin cfg0.N) (d : Fin 768) :
    (iblk m c 4 t : Vec Ideal S1x768 .f32) (ix2 0 d) = argB2 m c (ix1 d) := by
  blk_ext! [iblk, V, idx t]

/-- The result at a token and a feature: the entries of the pre-activation that reach the token's threshold, times the
    decoder, plus the bias. -/
noncomputable def masked (c : Dev nD) (i : Fin 8192) (d : Fin 768) : EReal :=
  (∑ j : Fin 8192, (if thresh k0_t1_loop.trips k0_t2_loop.trips (Reference.row (argX m c) (argWT m c) (argB1 m c) (argB2 m c) i)
        ≤ Reference.row (argX m c) (argWT m c) (argB1 m c) (argB2 m c) i j
      then Reference.row (argX m c) (argWT m c) (argB1 m c) (argB2 m c) i j else 0) * argW m c (ix2 j d)) + argB2 m c (ix1 d)

/-- A block's token has the pre-activation of its place in the array. -/
theorem row_eq (c : Dev nD) (t : Fin cfg0.N) (r : Fin 128) :
    Block.row (iblk m c 0 t) (iblk m c 1 t) (iblk m c 3 t) (iblk m c 4 t) r
      = Reference.row (argX m c) (argWT m c) (argB1 m c) (argB2 m c) ⟨t.val * 128 + r.val, token t r⟩ := by
  funext j
  unfold Block.row Reference.row
  rw [blk_b1 m c t j]
  congr 1
  refine Finset.sum_congr rfl fun d _ => ?_
  rw [blk_x m c t r d, blk_b2 m c t d, blk_wt m c t d j]

/-- What a grid point's body leaves is its block of the result. -/
theorem left_eq (c : Dev nD) (t : Fin cfg0.N) (r : Fin 128) (d : Fin 768) :
    left (iblk m c 0 t) (iblk m c 1 t) (iblk m c 2 t) (iblk m c 3 t) (iblk m c 4 t) (ix2 r d)
      = masked m c ⟨t.val * 128 + r.val, token t r⟩ d := by
  have z : (![0, 0] : Fin 2 → ℕ) = fun _ => 0 := by
    funext a
    match a with
    | 0 => rfl
    | 1 => rfl
  unfold left
  rw [View.canon_unit_zero z, View.ld_unit_zero z, View.ld_unit_zero z, View.ld_unit_zero z, View.ld_unit_zero z, View.ld_unit_zero z]
  refine (Block.block_apply _ _ _ _ _ r d).trans ?_
  unfold masked
  rw [row_eq m c t r, blk_b2 m c t d]
  congr 1
  refine Finset.sum_congr rfl fun j _ => ?_
  rw [blk_w m c t j d]

/-- Where the output's block lies in the array. -/
theorem place0 (t : Fin cfg0.N) (r : Fin 128) (e : Fin 768) :
    (⟨t.val * 128 + r.val, token t r⟩ : Fin 8192) = ((cfg0.win 5).blk t).view.emb (ix2 r e) 0 := by
  apply Fin.ext
  blk_simp [idx t]

theorem place1 (t : Fin cfg0.N) (r : Fin 128) (e : Fin 768) : e = ((cfg0.win 5).blk t).view.emb (ix2 r e) 1 := by
  apply Fin.ext
  blk_simp [idx t]

/-- The result array after the run. -/
theorem array (c : Dev nD) (i : Fin 8192) (d : Fin 768) :
    ((dats m 0 c).arrAt 5 cfg0.N : FVec Ideal S8192x768 .f32) (ix2 i d) = masked m c i d := by
  have h : (dats m 0 c).arrAt 5 cfg0.N = fun y : S8192x768.Idx => masked m c (y 0) (y 1) := by
    refine (dats m 0 c).arrAt_eq_of_covers 5 _ (by decide +kernel) fun t hf y => ?_
    obtain ⟨r, e, rfl⟩ : ∃ (r : Fin 128) (e : Fin 768), y = ix2 r e := ⟨y 0, y 1, by
      funext a
      match a with
      | 0 => rfl
      | 1 => rfl⟩
    refine Eq.trans (b := left (iblk m c 0 t) (iblk m c 1 t) (iblk m c 2 t) (iblk m c 3 t) (iblk m c 4 t) (ix2 r e)) ?_
      ((left_eq m c t r e).trans ?_)
    · rw [made]
      generalize left (iblk m c 0 t) (iblk m c 1 t) (iblk m c 2 t) (iblk m c 3 t) (iblk m c 4 t) = L
      rfl
    · exact congrArg₂ (masked m c) (place0 t r e) (place1 t r e)
  exact congrFun h (ix2 i d)

/-- The kernel's run: the result array is what the pipeline leaves and the arguments are unchanged. -/
theorem run : θ_run defs (onTc (τ := τ) (main (F := Ideal))) ⟨m, fun _ => 0, ρ⟩ fun r => ∀ c : Dev nD,
      r.2.mem ((c.tc : Thread nD τ).loc main_v3) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h.1.1 c).1 5, h.2.1 c⟩) (θ_run_and (launch m ρ) (frame m ρ))

end Cert.Proof.Array
-- ==== Proof.Separated.lean ====
module

public import proofs.«01_k».proof.Pre_separated
public import proofs.«01_k».proof.Proof.Ranked
public import proofs.«01_k».proof.Proof.KeyWord

@[expose] public section

set_option maxRecDepth 16384

/-! What the precondition says of a token: its entry of rank 127 is a real number, and its entry of rank 128 is
smaller by a gap that a search by keys can see. -/

namespace Cert.Proof.Separated

open Cert.Pre_separated Cert.Proof.TopK Cert.Proof.FloatKey
open Idealize.ShloMosaic

variable [Cert.Pre_separated.Facts]
open Cert.Pre_separated.Facts

/-- The pre-activations, as the function's operations. -/
noncomputable def pre (x : FVec Ideal S8192x768 .f32) (wt : FVec Ideal S768x8192 .f32) (b1 : FVec Ideal S8192 .f32) (b2 : FVec Ideal S768 .f32) :
    FVec Ideal S8192x8192 .f32 :=
  addf (Host.dotGeneral dot_S8192x768_S768x8192_S8192x8192_1_0_0_1_n_n none
      (subf x (broadcastInDim S8192x768 ![0, 1] bcast_S1x768_S8192x768_0_1 (broadcastInDim S1x768 ![1] bcast_S768_S1x768_1 b2))) wt)
    (broadcastInDim S8192x8192 ![0, 1] bcast_S1x8192_S8192x8192_0_1 (broadcastInDim S1x8192 ![1] bcast_S8192_S1x8192_1 b1))

theorem pre_apply (x : FVec Ideal S8192x768 .f32) (wt : FVec Ideal S768x8192 .f32) (b1 : FVec Ideal S8192 .f32) (b2 : FVec Ideal S768 .f32)
    (r j : Fin 8192) : pre x wt b1 b2 (ix2 r j) = (∑ d : Fin 768, (x (ix2 r d) - b2 (ix1 d)) * wt (ix2 d j)) + b1 (ix1 j) := by
  pointwise [pre]

/-- The normal powers of two, a column for each. -/
noncomputable def powers : FVec Ideal S1x254 .f32 :=
  bitcastToFloat .f32 (Host.shli (addi (iotaInDim S1x254 32 1) (broadcastInDim S1x254 ![] bcast_S_S1x254 (constantI S_ 32 1#32)))
    (broadcastInDim S1x254 ![] bcast_S_S1x254 (constantI S_ 32 23#32)))

/-- Column `s` holds the power of two with exponent field `s + 1`. -/
theorem powers_apply (s : Fin 254) : powers (ix2 0 s) = ((2 ^ (((s.val + 1 : ℕ) : ℤ) - 127) : ℝ) : EReal) := by
  have word : ∀ t : Fin 254, (IntOp.shli .host (IntOp.addi (BitVec.ofNat 32 t.val) 1#32) 23#32).toNat = (t.val + 1) * 2 ^ 23 := by decide
  pointwise [powers]
  rw [KeyWord.ofBits_pos _ (by rw [word]; omega), word, mag_binade _ (by omega)]

/-- The two ranks' values, compared at every power of two. -/
noncomputable def compared (v : FVec Ideal S8192x129 .f32) : IVec S8192x254 1 :=
  let a := extractStridedSlice S8192x1 ![0, 127] v slices_S8192x129_S8192x1_0_127
  let b := extractStridedSlice S8192x1 ![0, 128] v slices_S8192x129_S8192x1_0_128
  let size := maximumf (maximumf (Host.absf a) (Host.absf b)) (broadcastInDim S8192x1 ![] bcast_S_S8192x1 (constant S_ .f32 0x00800000#32))
  andi
    (ori
      (cmpf .olt (broadcastInDim S8192x254 ![0, 1] bcast_S8192x1_S8192x254_0_1 size) (broadcastInDim S8192x254 ![0, 1] bcast_S1x254_S8192x254_0_1 powers))
      (cmpf .oge (broadcastInDim S8192x254 ![0, 1] bcast_S8192x1_S8192x254_0_1 (subf a b))
        (broadcastInDim S8192x254 ![0, 1] bcast_S1x254_S8192x254_0_1
          (mulf (broadcastInDim S1x254 ![] bcast_S_S1x254 (constant S_ .f32 0x34800000#32)) powers))))
    (broadcastInDim S8192x254 ![0, 1] bcast_S8192x1_S8192x254_0_1
      (cmpf .ole (Host.absf a) (broadcastInDim S8192x1 ![] bcast_S_S8192x1 (constant S_ .f32 0x7F000000#32))))

theorem gap_word : Ideal.ofBits .f32 880803840#32 = ((2 ^ (-22 : ℤ) : ℝ) : EReal) := by
  simp [Ideal.ofBits, Ideal.ieee, -EReal.coe_mul]
  norm_num

theorem least_word : Ideal.ofBits .f32 8388608#32 = ((2 ^ (-126 : ℤ) : ℝ) : EReal) := by
  simp [Ideal.ofBits, Ideal.ieee, -EReal.coe_mul]
  norm_num

theorem greatest_word : Ideal.ofBits .f32 2130706432#32 = ((2 ^ (127 : ℤ) : ℝ) : EReal) := by
  rw [show (2 : ℝ) ^ (127 : ℤ) = 170141183460469231731687303715884105728 by norm_num]
  simp [Ideal.ofBits, Ideal.ieee, -EReal.coe_mul]
  norm_num

/-- The greater magnitude of two real numbers, or the least normal power of two, as an extended real. -/
theorem size_coe (α β : ℝ) : max (max (max (α : EReal) (-(α : EReal))) (max (β : EReal) (-(β : EReal)))) ((2 ^ (-126 : ℤ) : ℝ) : EReal)
    = ((max (max |α| |β|) (2 ^ (-126 : ℤ)) : ℝ) : EReal) := by
  have e (γ : ℝ) : max (γ : EReal) (-(γ : EReal)) = ((|γ| : ℝ) : EReal) := by
    rw [← EReal.coe_neg]
    exact (EReal.coe_strictMono.monotone.map_max).symm
  rw [e, e, ← EReal.coe_strictMono.monotone.map_max, ← EReal.coe_strictMono.monotone.map_max]

/-- The comparisons of two extended reals, said of real numbers and keys. -/
theorem gap (a b : EReal)
    (h₁ : ∀ s : Fin 254, max (max (max a (-a)) (max b (-b))) ((2 ^ (-126 : ℤ) : ℝ) : EReal) < ((2 ^ (((s.val + 1 : ℕ) : ℤ) - 127) : ℝ) : EReal)
      ∨ ((2 ^ (-22 : ℤ) : ℝ) : EReal) * ((2 ^ (((s.val + 1 : ℕ) : ℤ) - 127) : ℝ) : EReal) ≤ a - b)
    (h₂ : max a (-a) ≤ ((2 ^ (127 : ℤ) : ℝ) : EReal)) : ∃ α : ℝ, a = (α : EReal) ∧ |α| ≤ 2 ^ (127 : ℤ) ∧ KeyApart α b := by
  induction a using EReal.rec with
  | bot => exact absurd (EReal.neg_bot.ge.trans ((le_max_right _ _).trans h₂)) (EReal.coe_lt_top _).not_ge
  | top => exact absurd ((le_max_left _ _).trans h₂) (EReal.coe_lt_top _).not_ge
  | coe α =>
    have hα : |α| ≤ 2 ^ (127 : ℤ) := by
      rw [← EReal.coe_neg, ← EReal.coe_strictMono.monotone.map_max] at h₂
      exact EReal.coe_le_coe_iff.1 h₂
    refine ⟨α, rfl, hα, fun k hk hk' => ?_⟩
    induction b using EReal.rec with
    | bot => exact EReal.bot_lt_coe _
    | top =>
      rcases h₁ 0 with h | h
      · exact absurd (((le_max_left _ _).trans ((le_max_right _ _).trans (le_max_left _ _))).trans_lt h) not_top_lt
      · rw [← EReal.coe_mul] at h
        exact absurd h (by simp [-EReal.coe_mul])
    | coe β =>
      refine EReal.coe_lt_coe_iff.2 (Apart.below (fun s hs hs' hq => ?_) hα k hk hk')
      have e : ((((⟨s - 1, by omega⟩ : Fin 254).val + 1 : ℕ) : ℤ) - 127) = (s : ℤ) - 127 := by
        show (((s - 1 + 1 : ℕ) : ℤ) - 127) = (s : ℤ) - 127
        omega
      have h := h₁ ⟨s - 1, by omega⟩
      rw [e, size_coe, ← EReal.coe_mul, ← EReal.coe_sub, EReal.coe_lt_coe_iff, EReal.coe_le_coe_iff] at h
      exact h.resolve_left hq.not_gt

/-- Where the comparisons hold, the entry of rank 127 is a real number and the one of rank 128 lies below it by two keys. -/
theorem compared_apply (v : FVec Ideal S8192x129 .f32) (r : Fin 8192) (h : ∀ s : Fin 254, compared v (ix2 r s) = 1#1) :
    ∃ α : ℝ, v (ix2 r 127) = (α : EReal) ∧ |α| ≤ 2 ^ (127 : ℤ) ∧ KeyApart α (v (ix2 r 128)) := by
  have each : ∀ s : Fin 254, (max (max (max (v (ix2 r 127)) (-v (ix2 r 127))) (max (v (ix2 r 128)) (-v (ix2 r 128)))) ((2 ^ (-126 : ℤ) : ℝ) : EReal)
        < ((2 ^ (((s.val + 1 : ℕ) : ℤ) - 127) : ℝ) : EReal)
      ∨ ((2 ^ (-22 : ℤ) : ℝ) : EReal) * ((2 ^ (((s.val + 1 : ℕ) : ℤ) - 127) : ℝ) : EReal) ≤ v (ix2 r 127) - v (ix2 r 128))
      ∧ max (v (ix2 r 127)) (-v (ix2 r 127)) ≤ ((2 ^ (127 : ℤ) : ℝ) : EReal) := by
    intro s
    have h := h s
    revert h
    rw [← powers_apply, ← gap_word, ← least_word, ← greatest_word]
    pointwise [compared]
    intro h
    have both : ∀ p q t : Bool, IntOp.andi (IntOp.ori (BitVec.ofBool p) (BitVec.ofBool q)) (BitVec.ofBool t) = 1#1 → (p = true ∨ q = true) ∧ t = true := by
      decide
    obtain ⟨h₁, h₂⟩ := both _ _ _ h
    exact ⟨h₁.imp of_decide_eq_true of_decide_eq_true, of_decide_eq_true h₂⟩
  exact gap _ _ (fun s => (each s).1) (each 0).2

theorem fn_eq (x w : FVec Ideal S8192x768 .f32) (wt : FVec Ideal S768x8192 .f32) (b1 : FVec Ideal S8192 .f32) (b2 : FVec Ideal S768 .f32) :
    Cert.Pre_separated.fn (F := Ideal) x w wt b1 b2
      = compared (Host.topK S8192x129 1 (FloatOps.cmpfTotal (F := Ideal) (φ := .f32) .gt) (pre x wt b1 b2) sliceFits_S8192x8192_S8192x129).1 := rfl

/-- The precondition, at a token. -/
theorem holds (x w : FVec Ideal S8192x768 .f32) (wt : FVec Ideal S768x8192 .f32) (b1 : FVec Ideal S8192 .f32) (b2 : FVec Ideal S768 .f32)
    (h : Cert.Pre_separated.fn (F := Ideal) x w wt b1 b2 = fun _ => 1#1) (p : Fin 8192 → EReal) (r : Fin 8192)
    (hp : ∀ j, (∑ d : Fin 768, (x (ix2 r d) - b2 (ix1 d)) * wt (ix2 d j)) + b1 (ix1 j) = p j) :
    ∃ α : ℝ, p (order p ⟨127, by omega⟩) = (α : EReal) ∧ |α| ≤ 2 ^ (127 : ℤ)
      ∧ KeyApart α (p (order p ⟨128, by omega⟩)) := by
  have e : (fun j => pre x wt b1 b2 (ix2 r j)) = p := funext fun j => (pre_apply x wt b1 b2 r j).trans (hp j)
  have hv : ∀ k : Fin 129, (Host.topK S8192x129 1 (FloatOps.cmpfTotal (F := Ideal) (φ := .f32) .gt) (pre x wt b1 b2)
      sliceFits_S8192x8192_S8192x129).1 (ix2 r k) = p (order p ⟨k.val, by omega⟩) := by
    intro k
    rw [Ranked.value _ sliceFits_S8192x8192_S8192x129 (by decide) r k, e]
    exact congrFun e _
  rw [fn_eq] at h
  have := compared_apply _ r fun s => congrFun h (ix2 r s)
  rw [hv, hv] at this
  exact this

end Cert.Proof.Separated
-- ==== Proof.Equation.lean ====
module

public import proofs.«01_k».proof.Proof.Array
public import proofs.«01_k».proof.Proof.Separated

@[expose] public section

set_option maxRecDepth 16384

/-! The equation of the two programs: where every token's entry of rank 127 is separated from the one of rank 128, the
entries that reach the kernel's threshold are the 128 greatest. -/

namespace Cert.Proof.Equation

open Cert.KernelIdeal Cert.KernelIdeal.Gen Cert.Proof.TopK Cert.Proof.Row Cert.Proof.Array Cert.Proof.FloatKey
open Idealize.ShloMosaic Idealize.ShloMosaic.TcCoe

/-- The sum over the entries that reach a row's threshold is the sum over its 128 greatest entries. -/
theorem row_sum (p w : Fin 8192 → EReal) (α : ℝ) (ha : p (order p ⟨127, by omega⟩) = (α : EReal)) (hα : |α| ≤ 2 ^ (127 : ℤ))
    (hb : KeyApart α (p (order p ⟨128, by omega⟩))) :
    (∑ j : Fin 8192, (if thresh k0_t1_loop.trips k0_t2_loop.trips p ≤ p j then p j else 0) * w j)
      = ∑ k : Fin 128, p (order p ⟨k.val, by omega⟩) * w (order p ⟨k.val, by omega⟩) := by
  obtain ⟨h₁, h₂⟩ := thresh_between (N := k0_t1_loop.trips) (M := k0_t2_loop.trips) (by decide) (by decide) p α ha hα hb
  refine Eq.trans (Finset.sum_congr rfl fun j _ => ?_) (sum_chosen p 127 (by omega) _ h₁ h₂ fun j => p j * w j)
  split
  · rfl
  · exact zero_mul _

/-- The kernel's result is the reference's at every token and feature. -/
theorem masked_eq (m : (ℓ : Loc nD τ sig) → Buf (Elt Ideal) ℓ) (c : Dev nD) [Cert.Pre_separated.Facts]
    (h : Cert.Pre_separated.fn (F := Ideal) (argX m c) (argW m c) (argWT m c) (argB1 m c) (argB2 m c) = fun _ => 1#1)
    (i : Fin 8192) (d : Fin 768) : masked m c i d
      = (∑ k : Fin 128, Reference.row (argX m c) (argWT m c) (argB1 m c) (argB2 m c) i
            (order (Reference.row (argX m c) (argWT m c) (argB1 m c) (argB2 m c) i) ⟨k.val, by omega⟩)
          * argW m c (ix2 (order (Reference.row (argX m c) (argWT m c) (argB1 m c) (argB2 m c) i) ⟨k.val, by omega⟩) d))
        + argB2 m c (ix1 d) := by
  obtain ⟨α, ha, hα, hb⟩ := Separated.holds _ _ _ _ _ h (Reference.row (argX m c) (argWT m c) (argB1 m c) (argB2 m c) i) i
    fun j => rfl
  unfold masked
  rw [row_sum _ (fun j => argW m c (ix2 j d)) α ha hα hb]

/-- The two result arrays are equal. -/
theorem results (m : (ℓ : Loc nD τ sig) → Buf (Elt Ideal) ℓ) [Cert.Pre_separated.Facts]
    (m' : (ℓ : Loc Cert.ReferenceIdeal.nD Cert.ReferenceIdeal.τ Cert.ReferenceIdeal.sig) → Buf (Elt Ideal) ℓ) (c : Dev nD)
    (h : Cert.Pre_separated.fn (F := Ideal) (argX m c) (argW m c) (argWT m c) (argB1 m c) (argB2 m c) = fun _ => 1#1)
    (h0 : m' ((c.tc : Thread Cert.ReferenceIdeal.nD Cert.ReferenceIdeal.τ).loc Cert.ReferenceIdeal.main_arg0) = argX m c)
    (h1 : m' ((c.tc : Thread Cert.ReferenceIdeal.nD Cert.ReferenceIdeal.τ).loc Cert.ReferenceIdeal.main_arg1) = argW m c)
    (h2 : m' ((c.tc : Thread Cert.ReferenceIdeal.nD Cert.ReferenceIdeal.τ).loc Cert.ReferenceIdeal.main_arg2) = argWT m c)
    (h3 : m' ((c.tc : Thread Cert.ReferenceIdeal.nD Cert.ReferenceIdeal.τ).loc Cert.ReferenceIdeal.main_arg3) = argB1 m c)
    (h4 : m' ((c.tc : Thread Cert.ReferenceIdeal.nD Cert.ReferenceIdeal.τ).loc Cert.ReferenceIdeal.main_arg4) = argB2 m c) :
    (Cert.ReferenceIdeal.Value.res_main_v11 m' c : FVec Ideal S8192x768 .f32)
      = ((Cert.Proof.KernelIdeal.dats m 0 c).arrAt 5 cfg0.N : FVec Ideal S8192x768 .f32) := by
  funext y
  obtain ⟨i, d, rfl⟩ : ∃ (i : Fin 8192) (d : Fin 768), y = ix2 i d := ⟨y 0, y 1, by
    funext a
    match a with
    | 0 => rfl
    | 1 => rfl⟩
  exact (Reference.result m' c _ _ _ _ _ h0 h1 h2 h3 h4 i d).trans ((array m c i d).trans (masked_eq m c h i d)).symm

end Cert.Proof.Equation
-- ==== Proof.lean ====
/- The claims, assembled. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.KernelRun
public import proofs.«01_k».proof.Proof.IdealRun
public import proofs.«01_k».proof.Proof.SeparatedFacts
public import proofs.«01_k».proof.Proof.Equation
public import Idealize.ShloMosaic.Lib.Claim
public import Idealize.ShloMosaic.Lib.Quiescent

@[expose] public section

noncomputable section

namespace Cert.Proof

open Idealize.ShloMosaic Idealize.SL.Sem

/-- The reference runs, leaves its arguments unchanged and, having no semaphore, ends with every counter at zero. -/
theorem reference_frame : Cert.quiescent_ReferenceIdeal (hReferenceIdeal := Cert.ReferenceIdeal.Gen.facts) := fun m g _ =>
  (θ_run _ _ _).mono (fun r h => ⟨fun c => (h c).2, sem_eq_zero_of_no_sems rfl r.2⟩) (Cert.ReferenceIdeal.Value.run m g)

/-- The kernel and the reference end with equal results where every token's entries of rank 127 and 128 are separated. -/
theorem equal : Cert.algebraic_KernelIdeal_ReferenceIdeal_pre_separated (hKernelIdeal := Cert.KernelIdeal.Gen.facts)
    (hReferenceIdeal := Cert.ReferenceIdeal.Gen.facts) (hPre_separated := Cert.Proof.SeparatedFacts.facts) := fun m g m' g' hp ha =>
  ⟨fun c => (Cert.Proof.KernelIdeal.dats m 0 c).arrAt 5 Cert.KernelIdeal.cfg0.N, Cert.Proof.Array.run m g,
    (θ_run _ _ _).mono (fun r h c => ⟨(h c).1.trans
      (@Cert.Proof.Equation.results m Cert.Proof.SeparatedFacts.facts m' c (hp c) (ha c).1 (ha c).2.1 (ha c).2.2.1 (ha c).2.2.2.1 (ha c).2.2.2.2),
      (h c).2⟩) (Cert.ReferenceIdeal.Value.run m' g')⟩

/-- Everything claimed. -/
theorem claim : Cert.Claim := ⟨Cert.Kernel.Gen.facts, Cert.KernelIdeal.Gen.facts, Cert.ReferenceIdeal.Gen.facts,
  Cert.Proof.SeparatedFacts.facts,
  fun m g _ => Cert.Proof.Kernel.frame m g, fun m g _ => Cert.Proof.KernelIdeal.frame m g,
  fun m g _ => Cert.Proof.KernelIdeal.frame m g, reference_frame, fun m g _ => reference_frame m g trivial, trivial, equal⟩

end Cert.Proof

end
